-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S32768x64 : Shape := ⟨2, ![32768, 64]⟩
abbrev S64 : Shape := ⟨1, ![64]⟩
abbrev S_ : Shape := ⟨0, ![]⟩
abbrev S4x64 : Shape := ⟨2, ![4, 64]⟩
abbrev S4 : Shape := ⟨1, ![4]⟩
abbrev S32768 : Shape := ⟨1, ![32768]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S64 : S_.BroadcastsInDim S64 (![] : Fin 0 → Fin S64.rank)
  reducesTo_S64_S_d0 : S64.ReducesTo [0] S_
  reducesTo_S4x64_S4_d1 : S4x64.ReducesTo [1] S4
  bcast_S_S4 : S_.BroadcastsInDim S4 (![] : Fin 0 → Fin S4.rank)
  reducesTo_S4_S_d0 : S4.ReducesTo [0] S_

variable [Facts]

def fn_part1 {F : FTy → Type} [FloatOps F] (main_arg7 : FVec F S4 .f32) (main_arg8 : FVec F S4 .f32) (main_v14 : IVec S_ 1) (main_v15 : FVec F S4 .f32) (main_cst_5 : FVec F S_ .f32) : IVec S_ 1 :=
  let main_v16 : FVec F S4 .f32 := broadcastInDim S4 ![] bcast_S_S4 main_cst_5
  let main_v17 : IVec S4 1 := cmpf .olt main_v15 main_v16
  let main_c_6 : IVec S_ 1 := constantI S_ 1 1#1
  let main_v18 : IVec S_ 1 := (fun x v => Host.reduce IntOp.andi x v reducesTo_S4_S_d0 h_S_) main_v17 main_c_6
  let main_v19 : IVec S_ 1 := andi main_v14 main_v18
  let main_cst_7 : FVec F S_ .f32 := constant S_ .f32 0xFF800000#32
  let main_v20 : FVec F S4 .f32 := broadcastInDim S4 ![] bcast_S_S4 main_cst_7
  let main_v21 : IVec S4 1 := cmpf .ogt main_arg7 main_v20
  let main_c_8 : IVec S_ 1 := constantI S_ 1 1#1
  let main_v22 : IVec S_ 1 := (fun x v => Host.reduce IntOp.andi x v reducesTo_S4_S_d0 h_S_) main_v21 main_c_8
  let main_v23 : IVec S_ 1 := andi main_v19 main_v22
  let main_cst_9 : FVec F S_ .f32 := constant S_ .f32 0x7F800000#32
  let main_v24 : FVec F S4 .f32 := broadcastInDim S4 ![] bcast_S_S4 main_cst_9
  let main_v25 : IVec S4 1 := cmpf .olt main_arg8 main_v24
  let main_c_10 : IVec S_ 1 := constantI S_ 1 1#1
  let main_v26 : IVec S_ 1 := (fun x v => Host.reduce IntOp.andi x v reducesTo_S4_S_d0 h_S_) main_v25 main_c_10
  let main_v27 : IVec S_ 1 := andi main_v23 main_v26
  main_v27

def fn {F : FTy → Type} [FloatOps F] (main_arg0 : FVec F S32768x64 .f32) (main_arg1 : FVec F S64 .f32) (main_arg2 : FVec F S_ .f32) (main_arg3 : FVec F S4x64 .f32) (main_arg4 : FVec F S4 .f32) (main_arg5 : FVec F S4 .f32) (main_arg6 : FVec F S4 .f32) (main_arg7 : FVec F S4 .f32) (main_arg8 : FVec F S4 .f32) (main_arg9 : IVec S32768 32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S4x64 .f32 := mulf main_arg3 main_arg3
  let main_cst_2 : FVec F S_ .f32 := constant S_ .f32 0x00000000#32
  let main_v10 : FVec F S4 .f32 := (fun x v => Host.reduceAdd x v reducesTo_S4x64_S4_d1 h_S_) main_v9 main_cst_2
  let main_cst_3 : FVec F S_ .f32 := constant S_ .f32 0x00000000#32
  let main_v11 : FVec F S4 .f32 := broadcastInDim S4 ![] bcast_S_S4 main_cst_3
  let main_v12 : IVec S4 1 := cmpf .ogt main_v10 main_v11
  let main_c_4 : IVec S_ 1 := constantI S_ 1 1#1
  let main_v13 : IVec S_ 1 := (fun x v => Host.reduce IntOp.andi x v reducesTo_S4_S_d0 h_S_) main_v12 main_c_4
  let main_v14 : IVec S_ 1 := andi main_v8 main_v13
  let main_v15 : FVec F S4 .f32 := Host.absf main_arg5
  let main_cst_5 : FVec F S_ .f32 := constant S_ .f32 0x7F800000#32
  fn_part1 (F := F) main_arg7 main_arg8 main_v14 main_v15 main_cst_5
-- ==== Kernel.lean ====
abbrev S32768x64 : Shape := ⟨2, ![32768, 64]⟩
abbrev S64 : Shape := ⟨1, ![64]⟩
abbrev S_ : Shape := ⟨0, ![]⟩
abbrev S4x64 : Shape := ⟨2, ![4, 64]⟩
abbrev S4 : Shape := ⟨1, ![4]⟩
abbrev S32768 : Shape := ⟨1, ![32768]⟩
abbrev S32x1x1024 : Shape := ⟨3, ![32, 1, 1024]⟩
abbrev S1x64 : Shape := ⟨2, ![1, 64]⟩
abbrev S1x1 : Shape := ⟨2, ![1, 1]⟩
abbrev S4x1 : Shape := ⟨2, ![4, 1]⟩
abbrev S1x4 : Shape := ⟨2, ![1, 4]⟩
abbrev S16x1 : Shape := ⟨2, ![16, 1]⟩
abbrev S16x5 : Shape := ⟨2, ![16, 5]⟩
abbrev S1024x64 : Shape := ⟨2, ![1024, 64]⟩
abbrev S1x1x1024 : Shape := ⟨3, ![1, 1, 1024]⟩
abbrev S5x64 : Shape := ⟨2, ![5, 64]⟩
abbrev S5x1024 : Shape := ⟨2, ![5, 1024]⟩
abbrev S1x1024 : Shape := ⟨2, ![1, 1024]⟩
abbrev S1 : Shape := ⟨1, ![1]⟩
abbrev S4x1024 : Shape := ⟨2, ![4, 1024]⟩
abbrev S16x1024 : Shape := ⟨2, ![16, 1024]⟩
abbrev S16x4 : Shape := ⟨2, ![16, 4]⟩
abbrev S16 : Shape := ⟨1, ![16]⟩

abbrev nBuf : Space → Nat
  | .hbm => 20
  | .vmem => 15
  | .smem => 0
  | _ => 0

abbrev bufTy : (tb : Table) → Fin (tcTables nBuf tb) → BufTy
  | .hbm, ⟨0, _⟩ => ⟨S32768x64, .f32⟩
  | .hbm, ⟨1, _⟩ => ⟨S64, .f32⟩
  | .hbm, ⟨2, _⟩ => ⟨S_, .f32⟩
  | .hbm, ⟨3, _⟩ => ⟨S4x64, .f32⟩
  | .hbm, ⟨4, _⟩ => ⟨S4, .f32⟩
  | .hbm, ⟨5, _⟩ => ⟨S4, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S32768, .i32⟩
  | .hbm, ⟨10, _⟩ => ⟨S32x1x1024, .i32⟩
  | .hbm, ⟨11, _⟩ => ⟨S1x64, .f32⟩
  | .hbm, ⟨12, _⟩ => ⟨S1x1, .f32⟩
  | .hbm, ⟨13, _⟩ => ⟨S4x1, .f32⟩
  | .hbm, ⟨14, _⟩ => ⟨S4x1, .f32⟩
  | .hbm, ⟨15, _⟩ => ⟨S4x1, .f32⟩
  | .hbm, ⟨16, _⟩ => ⟨S4x1, .f32⟩
  | .hbm, ⟨17, _⟩ => ⟨S1x4, .f32⟩
  | .hbm, ⟨18, _⟩ => ⟨S16x1, .f32⟩
  | .hbm, ⟨19, _⟩ => ⟨S16x5, .f32⟩
  | .local _ .vmem, ⟨0, _⟩ => ⟨S1024x64, .f32⟩
  | .local _ .vmem, ⟨1, _⟩ => ⟨S1024x64, .f32⟩
  | .local _ .vmem, ⟨2, _⟩ => ⟨S1x64, .f32⟩
  | .local _ .vmem, ⟨3, _⟩ => ⟨S1x1, .f32⟩
  | .local _ .vmem, ⟨4, _⟩ => ⟨S4x64, .f32⟩
  | .local _ .vmem, ⟨5, _⟩ => ⟨S4x1, .f32⟩
  | .local _ .vmem, ⟨6, _⟩ => ⟨S4x1, .f32⟩
  | .local _ .vmem, ⟨7, _⟩ => ⟨S4x1, .f32⟩
  | .local _ .vmem, ⟨8, _⟩ => ⟨S4x1, .f32⟩
  | .local _ .vmem, ⟨9, _⟩ => ⟨S1x4, .f32⟩
  | .local _ .vmem, ⟨10, _⟩ => ⟨S1x1x1024, .i32⟩
  | .local _ .vmem, ⟨11, _⟩ => ⟨S1x1x1024, .i32⟩
  | .local _ .vmem, ⟨12, _⟩ => ⟨S16x1, .f32⟩
  | .local _ .vmem, ⟨13, _⟩ => ⟨S16x5, .f32⟩
  | .local _ .vmem, ⟨14, _⟩ => ⟨S16x5, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v200 : BitVec 1 := Scalar.cmpi .eq arg0 c31_i32
  let v201 : BitVec 32 := Scalar.extui v200
  let c0_i32_72 : BitVec 32 := 0#32
  let v202 : BitVec 1 := Scalar.cmpi .ne v201 c0_i32_72
  v202

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x5 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S32768x64 : Shape := ⟨2, ![32768, 64]⟩
abbrev S64 : Shape := ⟨1, ![64]⟩
abbrev S_ : Shape := ⟨0, ![]⟩
abbrev S4x64 : Shape := ⟨2, ![4, 64]⟩
abbrev S4 : Shape := ⟨1, ![4]⟩
abbrev S32768 : Shape := ⟨1, ![32768]⟩
abbrev S1x64 : Shape := ⟨2, ![1, 64]⟩
abbrev S4x1 : Shape := ⟨2, ![4, 1]⟩
abbrev S64x4 : Shape := ⟨2, ![64, 4]⟩
abbrev S32768x4 : Shape := ⟨2, ![32768, 4]⟩
abbrev S32768x4x1 : Shape := ⟨3, ![32768, 4, 1]⟩
abbrev S1x4x64 : Shape := ⟨3, ![1, 4, 64]⟩
abbrev S32768x4x64 : Shape := ⟨3, ![32768, 4, 64]⟩
abbrev S32768x1x64 : Shape := ⟨3, ![32768, 1, 64]⟩
abbrev S1x4 : Shape := ⟨2, ![1, 4]⟩
abbrev S32768x1 : Shape := ⟨2, ![32768, 1]⟩
abbrev S16x1 : Shape := ⟨2, ![16, 1]⟩
abbrev S16x4 : Shape := ⟨2, ![16, 4]⟩
abbrev S1 : Shape := ⟨1, ![1]⟩
abbrev S16x5 : Shape := ⟨2, ![16, 5]⟩
abbrev S16 : Shape := ⟨1, ![16]⟩

abbrev nBuf : Space → Nat
  | .hbm => 278
  | .vmem => 0
  | .smem => 0
  | _ => 0

abbrev hbmTy0_0 (i : Nat) : BufTy := match i % 128 with
  | 0 => ⟨S32768x64, .f32⟩
  | 1 => ⟨S64, .f32⟩
  | 2 => ⟨S_, .f32⟩
  | 3 => ⟨S4x64, .f32⟩
  | 4 => ⟨S4, .f32⟩
  | 5 => ⟨S4, .f32⟩
  | 6 => ⟨S4, .f32⟩
  | 7 => ⟨S4, .f32⟩
  | 8 => ⟨S4, .f32⟩
  | 9 => ⟨S32768, .i32⟩
  | 10 => ⟨S_, .f32⟩
  | 11 => ⟨S1x64, .f32⟩
  | 12 => ⟨S32768x64, .f32⟩
  | 13 => ⟨S32768x64, .f32⟩
  | 14 => ⟨S32768x64, .f32⟩
  | 15 => ⟨S_, .f32⟩
  | 16 => ⟨S32768, .f32⟩
  | 17 => ⟨S32768, .f32⟩
  | 18 => ⟨S_, .f32⟩
  | 19 => ⟨S_, .f32⟩
  | 20 => ⟨S32768, .f32⟩
  | 21 => ⟨S_, .f32⟩
  | 22 => ⟨S_, .f32⟩
  | 23 => ⟨S_, .f32⟩
  | 24 => ⟨S_, .f32⟩
  | 25 => ⟨S32768, .f32⟩
  | 26 => ⟨S32768, .f32⟩
  | 27 => ⟨S32768, .f32⟩
  | 28 => ⟨S32768, .f32⟩
  | 29 => ⟨S4x64, .f32⟩
  | 30 => ⟨S_, .f32⟩
  | 31 => ⟨S4, .f32⟩
  | 32 => ⟨S4x1, .f32⟩
  | 33 => ⟨S4x1, .f32⟩
  | 34 => ⟨S4x64, .f32⟩
  | 35 => ⟨S4x64, .f32⟩
  | 36 => ⟨S64x4, .f32⟩
  | 37 => ⟨S32768x4, .f32⟩
  | 38 => ⟨S32768x4x1, .f32⟩
  | 39 => ⟨S1x4x64, .f32⟩
  | 40 => ⟨S32768x4x64, .f32⟩
  | 41 => ⟨S32768x4x64, .f32⟩
  | 42 => ⟨S32768x4x64, .f32⟩
  | 43 => ⟨S32768x1x64, .f32⟩
  | 44 => ⟨S32768x4x64, .f32⟩
  | 45 => ⟨S32768x4x64, .f32⟩
  | 46 => ⟨S32768x4x64, .f32⟩
  | 47 => ⟨S_, .f32⟩
  | 48 => ⟨S32768x4, .f32⟩
  | 49 => ⟨S32768x4, .f32⟩
  | 50 => ⟨S1x4, .f32⟩
  | 51 => ⟨S_, .f32⟩
  | 52 => ⟨S1x4, .f32⟩
  | 53 => ⟨S1x4, .f32⟩
  | 54 => ⟨S32768x4, .f32⟩
  | 55 => ⟨S1x4, .f32⟩
  | 56 => ⟨S1x4, .f32⟩
  | 57 => ⟨S1x4, .f32⟩
  | 58 => ⟨S_, .f32⟩
  | 59 => ⟨S1x4, .f32⟩
  | 60 => ⟨S1x4, .f32⟩
  | 61 => ⟨S32768x4, .f32⟩
  | 62 => ⟨S32768x4, .f32⟩
  | 63 => ⟨S32768x4, .f32⟩
  | 64 => ⟨S32768x4, .f32⟩
  | 65 => ⟨S1x4, .f32⟩
  | 66 => ⟨S1x4, .f32⟩
  | 67 => ⟨S1x4, .f32⟩
  | 68 => ⟨S1x4, .f32⟩
  | 69 => ⟨S1x4, .f32⟩
  | 70 => ⟨S1x4, .f32⟩
  | 71 => ⟨S1x4, .f32⟩
  | 72 => ⟨S1x4, .f32⟩
  | 73 => ⟨S1x4, .f32⟩
  | 74 => ⟨S1x4, .f32⟩
  | 75 => ⟨S32768x4, .f32⟩
  | 76 => ⟨S32768x4, .f32⟩
  | 77 => ⟨S_, .f32⟩
  | 78 => ⟨S1x4, .f32⟩
  | 79 => ⟨S1x4, .f32⟩
  | 80 => ⟨S1x4, .f32⟩
  | 81 => ⟨S32768x4, .f32⟩
  | 82 => ⟨S32768x4, .f32⟩
  | 83 => ⟨S32768x4, .f32⟩
  | 84 => ⟨S32768x4, .f32⟩
  | 85 => ⟨S32768x4, .f32⟩
  | 86 => ⟨S32768x4, .f32⟩
  | 87 => ⟨S32768x4, .f32⟩
  | 88 => ⟨S32768x4, .f32⟩
  | 89 => ⟨S_, .f32⟩
  | 90 => ⟨S32768x4, .f32⟩
  | 91 => ⟨S32768x4, .i1⟩
  | 92 => ⟨S_, .f32⟩
  | 93 => ⟨S32768x4, .f32⟩
  | 94 => ⟨S32768x4, .f32⟩
  | 95 => ⟨S_, .f32⟩
  | 96 => ⟨S32768x4, .f32⟩
  | 97 => ⟨S32768x4, .f32⟩
  | 98 => ⟨S_, .f32⟩
  | 99 => ⟨S32768x4, .f32⟩
  | 100 => ⟨S32768x4, .f32⟩
  | 101 => ⟨S32768x4, .f32⟩
  | 102 => ⟨S_, .f32⟩
  | 103 => ⟨S32768x4, .f32⟩
  | 104 => ⟨S32768x4, .f32⟩
  | 105 => ⟨S32768x4, .f32⟩
  | 106 => ⟨S_, .f32⟩
  | 107 => ⟨S32768x4, .f32⟩
  | 108 => ⟨S32768x4, .f32⟩
  | 109 => ⟨S32768x4, .f32⟩
  | 110 => ⟨S_, .f32⟩
  | 111 => ⟨S32768x4, .f32⟩
  | 112 => ⟨S32768x4, .f32⟩
  | 113 => ⟨S32768x4, .f32⟩
  | 114 => ⟨S_, .f32⟩
  | 115 => ⟨S32768x4, .f32⟩
  | 116 => ⟨S32768x4, .f32⟩
  | 117 => ⟨S32768x4, .f32⟩
  | 118 => ⟨S_, .f32⟩
  | 119 => ⟨S32768x4, .f32⟩
  | 120 => ⟨S32768x4, .f32⟩
  | 121 => ⟨S32768x4, .f32⟩
  | 122 => ⟨S_, .f32⟩
  | 123 => ⟨S32768x4, .f32⟩
  | 124 => ⟨S32768x4, .f32⟩
  | 125 => ⟨S32768x4, .f32⟩
  | 126 => ⟨S_, .f32⟩
  | 127 => ⟨S32768x4, .f32⟩
  | _ => ⟨S32768x64, .f32⟩

abbrev hbmTy0_1 (i : Nat) : BufTy := match i % 128 with
  | 0 => ⟨S32768x4, .f32⟩
  | 1 => ⟨S_, .f32⟩
  | 2 => ⟨S32768x4, .f32⟩
  | 3 => ⟨S32768x4, .f32⟩
  | 4 => ⟨S_, .f32⟩
  | 5 => ⟨S32768x4, .f32⟩
  | 6 => ⟨S32768x4, .f32⟩
  | 7 => ⟨S_, .f32⟩
  | 8 => ⟨S32768x4, .f32⟩
  | 9 => ⟨S32768x4, .f32⟩
  | 10 => ⟨S32768x4, .f32⟩
  | 11 => ⟨S_, .f32⟩
  | 12 => ⟨S32768x4, .f32⟩
  | 13 => ⟨S32768x4, .f32⟩
  | 14 => ⟨S32768x4, .f32⟩
  | 15 => ⟨S_, .f32⟩
  | 16 => ⟨S32768x4, .f32⟩
  | 17 => ⟨S32768x4, .f32⟩
  | 18 => ⟨S32768x4, .f32⟩
  | 19 => ⟨S_, .f32⟩
  | 20 => ⟨S32768x4, .f32⟩
  | 21 => ⟨S32768x4, .f32⟩
  | 22 => ⟨S32768x4, .f32⟩
  | 23 => ⟨S_, .f32⟩
  | 24 => ⟨S32768x4, .f32⟩
  | 25 => ⟨S32768x4, .f32⟩
  | 26 => ⟨S32768x4, .f32⟩
  | 27 => ⟨S_, .f32⟩
  | 28 => ⟨S32768x4, .f32⟩
  | 29 => ⟨S32768x4, .f32⟩
  | 30 => ⟨S32768x4, .f32⟩
  | 31 => ⟨S_, .f32⟩
  | 32 => ⟨S32768x4, .f32⟩
  | 33 => ⟨S32768x4, .f32⟩
  | 34 => ⟨S32768x4, .f32⟩
  | 35 => ⟨S32768x4, .f32⟩
  | 36 => ⟨S32768x4, .f32⟩
  | 37 => ⟨S_, .f32⟩
  | 38 => ⟨S32768x4, .f32⟩
  | 39 => ⟨S32768x4, .i1⟩
  | 40 => ⟨S_, .f32⟩
  | 41 => ⟨S32768x4, .f32⟩
  | 42 => ⟨S32768x4, .f32⟩
  | 43 => ⟨S_, .f32⟩
  | 44 => ⟨S32768x4, .f32⟩
  | 45 => ⟨S32768x4, .f32⟩
  | 46 => ⟨S32768x4, .f32⟩
  | 47 => ⟨S_, .f32⟩
  | 48 => ⟨S32768x4, .f32⟩
  | 49 => ⟨S32768x4, .f32⟩
  | 50 => ⟨S32768x4, .f32⟩
  | 51 => ⟨S_, .f32⟩
  | 52 => ⟨S32768x4, .f32⟩
  | 53 => ⟨S32768x4, .f32⟩
  | 54 => ⟨S32768x4, .f32⟩
  | 55 => ⟨S_, .f32⟩
  | 56 => ⟨S32768x4, .f32⟩
  | 57 => ⟨S32768x4, .f32⟩
  | 58 => ⟨S32768x4, .f32⟩
  | 59 => ⟨S_, .f32⟩
  | 60 => ⟨S32768x4, .f32⟩
  | 61 => ⟨S32768x4, .f32⟩
  | 62 => ⟨S32768x4, .f32⟩
  | 63 => ⟨S_, .f32⟩
  | 64 => ⟨S32768x4, .f32⟩
  | 65 => ⟨S32768x4, .f32⟩
  | 66 => ⟨S32768x4, .f32⟩
  | 67 => ⟨S_, .f32⟩
  | 68 => ⟨S32768x4, .f32⟩
  | 69 => ⟨S32768x4, .f32⟩
  | 70 => ⟨S_, .f32⟩
  | 71 => ⟨S32768x4, .f32⟩
  | 72 => ⟨S32768x4, .i1⟩
  | 73 => ⟨S_, .f32⟩
  | 74 => ⟨S32768x4, .f32⟩
  | 75 => ⟨S32768x4, .f32⟩
  | 76 => ⟨S32768x4, .f32⟩
  | 77 => ⟨S32768x4, .f32⟩
  | 78 => ⟨S32768x4, .f32⟩
  | 79 => ⟨S32768x4, .f32⟩
  | 80 => ⟨S32768x4, .f32⟩
  | 81 => ⟨S_, .f32⟩
  | 82 => ⟨S1x4, .f32⟩
  | 83 => ⟨S1x4, .f32⟩
  | 84 => ⟨S_, .f32⟩
  | 85 => ⟨S1x4, .f32⟩
  | 86 => ⟨S1x4, .f32⟩
  | 87 => ⟨S1x4, .f32⟩
  | 88 => ⟨S1x4, .f32⟩
  | 89 => ⟨S_, .f32⟩
  | 90 => ⟨S32768x4, .f32⟩
  | 91 => ⟨S32768x4, .f32⟩
  | 92 => ⟨S32768x4, .f32⟩
  | 93 => ⟨S32768x4, .f32⟩
  | 94 => ⟨S32768x4, .f32⟩
  | 95 => ⟨S32768x4, .f32⟩
  | 96 => ⟨S32768x4, .f32⟩
  | 97 => ⟨S32768x1, .f32⟩
  | 98 => ⟨S32768x4, .f32⟩
  | 99 => ⟨S_, .f32⟩
  | 100 => ⟨S16x1, .f32⟩
  | 101 => ⟨S32768x1, .i32⟩
  | 102 => ⟨S16x1, .f32⟩
  | 103 => ⟨S_, .f32⟩
  | 104 => ⟨S16x4, .f32⟩
  | 105 => ⟨S32768x1, .i32⟩
  | 106 => ⟨S16x4, .f32⟩
  | 107 => ⟨S_, .f32⟩
  | 108 => ⟨S_, .f32⟩
  | 109 => ⟨S_, .f32⟩
  | 110 => ⟨S_, .f32⟩
  | 111 => ⟨S1, .f32⟩
  | 112 => ⟨S4, .f32⟩
  | 113 => ⟨S4, .f32⟩
  | 114 => ⟨S4, .f32⟩
  | 115 => ⟨S_, .f32⟩
  | 116 => ⟨S_, .f32⟩
  | 117 => ⟨S1, .f32⟩
  | 118 => ⟨S1, .f32⟩
  | 119 => ⟨S4, .f32⟩
  | 120 => ⟨S4, .f32⟩
  | 121 => ⟨S1x4, .f32⟩
  | 122 => ⟨S16x4, .f32⟩
  | 123 => ⟨S16x4, .f32⟩
  | 124 => ⟨S16x5, .f32⟩
  | 125 => ⟨S16x4, .f32⟩
  | 126 => ⟨S_, .f32⟩
  | 127 => ⟨S16, .f32⟩
  | _ => ⟨S32768x64, .f32⟩

abbrev hbmTy0_2 (i : Nat) : BufTy := match i % 128 with
  | 0 => ⟨S16x1, .f32⟩
  | 1 => ⟨S16x1, .f32⟩
  | 2 => ⟨S_, .f32⟩
  | 3 => ⟨S16x1, .f32⟩
  | 4 => ⟨S16x1, .i1⟩
  | 5 => ⟨S_, .i32⟩
  | 6 => ⟨S_, .f32⟩
  | 7 => ⟨S16x1, .f32⟩
  | 8 => ⟨S16x1, .f32⟩
  | 9 => ⟨S16x4, .f32⟩
  | 10 => ⟨S16x4, .f32⟩
  | 11 => ⟨S16x4, .f32⟩
  | 12 => ⟨S_, .f32⟩
  | 13 => ⟨S16, .f32⟩
  | 14 => ⟨S16x1, .f32⟩
  | 15 => ⟨S16x1, .f32⟩
  | 16 => ⟨S16x1, .f32⟩
  | 17 => ⟨S16, .f32⟩
  | 18 => ⟨S16x1, .f32⟩
  | 19 => ⟨S16, .f32⟩
  | 20 => ⟨S16, .f32⟩
  | 21 => ⟨S16x1, .f32⟩
  | _ => ⟨S32768x64, .f32⟩

abbrev hbmTy (i : Nat) : BufTy := match i / 128 with
  | 0 => hbmTy0_0 i
  | 1 => hbmTy0_1 i
  | 2 => hbmTy0_2 i
  | _ => ⟨S32768x64, .f32⟩

abbrev bufTy : (tb : Table) → Fin (tcTables nBuf tb) → BufTy
  | .hbm, ⟨i, _⟩ => hbmTy i
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call2_v0 : Ref sig .tc := ⟨.hbm, 46, rfl⟩
abbrev main_call2_cst : Ref sig .tc := ⟨.hbm, 47, rfl⟩
abbrev main_call2_v1 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_4 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_5 : Ref sig .tc := ⟨.hbm, 89, rfl⟩
abbrev main_v63 : Ref sig .tc := ⟨.hbm, 90, rfl⟩
abbrev main_v64 : Ref sig .tc := ⟨.hbm, 91, rfl⟩
abbrev main_cst_6 : Ref sig .tc := ⟨.hbm, 92, rfl⟩
abbrev main_v65 : Ref sig .tc := ⟨.hbm, 93, rfl⟩
abbrev main_v66 : Ref sig .tc := ⟨.hbm, 94, rfl⟩
abbrev main_cst_7 : Ref sig .tc := ⟨.hbm, 95, rfl⟩
abbrev main_v67 : Ref sig .tc := ⟨.hbm, 96, rfl⟩
abbrev main_v68 : Ref sig .tc := ⟨.hbm, 97, rfl⟩
abbrev main_cst_8 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_10 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_11 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_12 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_13 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_14 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_15 : Ref sig .tc := ⟨.hbm, 126, rfl⟩
abbrev main_v90 : Ref sig .tc := ⟨.hbm, 127, rfl⟩
abbrev main_v91 : Ref sig .tc := ⟨.hbm, 128, rfl⟩
abbrev main_cst_16 : Ref sig .tc := ⟨.hbm, 129, rfl⟩
abbrev main_v92 : Ref sig .tc := ⟨.hbm, 130, rfl⟩
abbrev main_v93 : Ref sig .tc := ⟨.hbm, 131, rfl⟩
abbrev main_cst_17 : Ref sig .tc := ⟨.hbm, 132, rfl⟩
abbrev main_v94 : Ref sig .tc := ⟨.hbm, 133, rfl⟩
abbrev main_v95 : Ref sig .tc := ⟨.hbm, 134, rfl⟩
abbrev main_cst_18 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_19 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_20 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_21 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_22 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_23 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_24 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_25 : Ref sig .tc := ⟨.hbm, 165, rfl⟩
abbrev main_v119 : Ref sig .tc := ⟨.hbm, 166, rfl⟩
abbrev main_v120 : Ref sig .tc := ⟨.hbm, 167, rfl⟩
abbrev main_cst_26 : Ref sig .tc := ⟨.hbm, 168, rfl⟩
abbrev main_v121 : Ref sig .tc := ⟨.hbm, 169, rfl⟩
abbrev main_v122 : Ref sig .tc := ⟨.hbm, 170, rfl⟩
abbrev main_cst_27 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_28 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_29 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_30 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_31 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_32 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_33 : Ref sig .tc := ⟨.hbm, 195, rfl⟩
abbrev main_v141 : Ref sig .tc := ⟨.hbm, 196, rfl⟩
abbrev main_v142 : Ref sig .tc := ⟨.hbm, 197, rfl⟩
abbrev main_cst_34 : Ref sig .tc := ⟨.hbm, 198, rfl⟩
abbrev main_v143 : Ref sig .tc := ⟨.hbm, 199, rfl⟩
abbrev main_v144 : Ref sig .tc := ⟨.hbm, 200, rfl⟩
abbrev main_cst_35 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_cst_36 : Ref sig .tc := ⟨.hbm, 209, rfl⟩
abbrev main_v152 : Ref sig .tc := ⟨.hbm, 210, rfl⟩
abbrev main_v153 : Ref sig .tc := ⟨.hbm, 211, rfl⟩
abbrev main_cst_37 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_cst_38 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_cst_39 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_cst_40 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_call6_cst : Ref sig .tc := ⟨.hbm, 235, rfl⟩
abbrev main_call6_v0 : Ref sig .tc := ⟨.hbm, 236, rfl⟩
abbrev main_call6_cst_0 : Ref sig .tc := ⟨.hbm, 237, rfl⟩
abbrev main_call6_v1 : Ref sig .tc := ⟨.hbm, 238, rfl⟩
abbrev main_call6_v2 : Ref sig .tc := ⟨.hbm, 239, rfl⟩
abbrev main_call6_v3 : Ref sig .tc := ⟨.hbm, 240, rfl⟩
abbrev main_call6_v4 : Ref sig .tc := ⟨.hbm, 241, rfl⟩
abbrev main_call6_v5 : Ref sig .tc := ⟨.hbm, 242, rfl⟩
abbrev main_call6_cst_1 : Ref sig .tc := ⟨.hbm, 243, rfl⟩
abbrev main_call6_v6 : Ref sig .tc := ⟨.hbm, 244, rfl⟩
abbrev main_call6_v7 : Ref sig .tc := ⟨.hbm, 245, rfl⟩
abbrev main_call6_v8 : Ref sig .tc := ⟨.hbm, 246, rfl⟩
abbrev main_call6_v9 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_cst_41 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_cst_42 : Ref sig .tc := ⟨.hbm, 258, rfl⟩
abbrev main_v182 : Ref sig .tc := ⟨.hbm, 259, rfl⟩
abbrev main_v183 : Ref sig .tc := ⟨.hbm, 260, rfl⟩
abbrev main_c : Ref sig .tc := ⟨.hbm, 261, rfl⟩
abbrev main_call7_v0 : Ref sig .tc := ⟨.hbm, 262, rfl⟩
abbrev main_call7_v1 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_cst_43 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩

abbrev nD : Nat := 1
abbrev τ : Topo := Topo.v7x

variable {F : FTy → Type} [FloatOps F]
-- ==== Proof.Spec.lean ====
/-
  The quantities both programs compute, written once over the extended reals: for one read and one artifact cluster
  the kernel's spelling and the reference's, and for one output segment the two ways of normalising and of summing
  exponentials. `RowLaws.lean` and `TailLaws.lean` prove the two spellings equal.
-/
module

public import Idealize.ShloMosaic.PureOps.Ideal.Laws
public import Idealize.ShloMosaic.Lib.IdealHost

@[expose] public section

noncomputable section

namespace Cert.Mix

open Idealize.ShloMosaic

/-- The extended real an f32 literal's word denotes. -/
abbrev lit (b : BitVec 32) : EReal := Ideal.ofBits .f32 b

/-- The magnitude of an extended real. -/
abbrev mag (x : EReal) : EReal := max x (-x)

/-- A comparison `x < y` as the one-bit word both programs print. -/
abbrev below (x y : EReal) : BitVec 1 := Ideal.cmp .olt x y

/-! ## The complementary error function's three polynomials -/

/-- The tail polynomial for `1 ≤ |z| < 2`, in `1 / z²`. -/
def tailNear (y : EReal) : EReal :=
  (((((((lit 0x3CBE9CF4#32 * y + lit 0xBE0E0868#32) * y + lit 0x3EBCCBD0#32) * y + lit 0xBF151CF8#32) * y
    + lit 0x3F1EF9E3#32) * y + lit 0xBEFD28C0#32) * y + lit 0x3EAE5471#32) * y + lit 0xBE8C5880#32) * y + lit 0x3F1056E6#32

/-- The tail polynomial for `2 ≤ |z|`, in `1 / z²`. -/
def tailFar (y : EReal) : EReal :=
  ((((((lit 0xC127A483#32 * y + lit 0x414FA29C#32) * y + lit 0xC0EFDB4A#32) * y + lit 0x403AF1FA#32) * y
    + lit 0xBF81F436#32) * y + lit 0x3ED7FC3E#32) * y + lit 0xBE906C5D#32) * y + lit 0x3F106EB9#32

/-- The polynomial of the error function below 1, in `z²`. -/
def nearZero (y : EReal) : EReal :=
  (((((lit 0x38A4B519#32 * y + lit 0xBA51FB80#32) * y + lit 0x3BAA02D9#32) * y + lit 0xBCDBFC87#32) * y
    + lit 0x3DE7167C#32) * y + lit 0xBEC0939F#32) * y + lit 0x3F906EBA#32

/-- The kernel's complementary error function: the tail multiplies by the reciprocal of `|z|`. -/
def erfcKernel (z : EReal) : EReal :=
  Scalar.select (below (mag z) (lit 0x3F800000#32)) (lit 0x3F800000#32 - z * nearZero (z * z))
    (Scalar.select (below z (lit 0x00000000#32))
      (lit 0x40000000#32 - Ideal.exp ((lit 0x00000000#32 - z) * z) * Ideal.div (lit 0x3F800000#32) (mag z)
        * Scalar.select (below (mag z) (lit 0x40000000#32))
            (tailNear (Ideal.div (lit 0x3F800000#32) (mag z) * Ideal.div (lit 0x3F800000#32) (mag z)))
            (tailFar (Ideal.div (lit 0x3F800000#32) (mag z) * Ideal.div (lit 0x3F800000#32) (mag z))))
      (Ideal.exp ((lit 0x00000000#32 - z) * z) * Ideal.div (lit 0x3F800000#32) (mag z)
        * Scalar.select (below (mag z) (lit 0x40000000#32))
            (tailNear (Ideal.div (lit 0x3F800000#32) (mag z) * Ideal.div (lit 0x3F800000#32) (mag z)))
            (tailFar (Ideal.div (lit 0x3F800000#32) (mag z) * Ideal.div (lit 0x3F800000#32) (mag z)))))

/-- The reference's tail of the complementary error function: `exp(-z²) / |z|` times the polynomial at `1 / z²`. -/
def tailPlain (z : EReal) : EReal :=
  Ideal.div (Ideal.exp (-(z * z))) (mag z)
    * Scalar.select (below (mag z) (lit 0x40000000#32)) (tailNear (Ideal.div (lit 0x3F800000#32) (z * z)))
        (tailFar (Ideal.div (lit 0x3F800000#32) (z * z)))

/-- The reference's complementary error function. -/
def erfcPlain (z : EReal) : EReal :=
  Scalar.select (below (mag z) (lit 0x3F800000#32)) (lit 0x3F800000#32 - z * nearZero (z * z))
    (Scalar.select (below z (lit 0x00000000#32)) (lit 0x40000000#32 - tailPlain z) (tailPlain z))

/-! ## One read and one cluster, as the kernel spells it -/

/-- A cluster's direction scaled to length one by the reciprocal square root. -/
def unitKernel (d : Fin 64 → EReal) (e : Fin 64) : EReal := d e * Ideal.rsqrt (∑ i, d i * d i)

/-- The squared distance of a read to the centroid, expanded. -/
def distKernel (x c : Fin 64 → EReal) : EReal :=
  (∑ e, lit 0x3F800000#32 * (x e * x e)) - lit 0x40000000#32 * (∑ e, c e * x e) + ∑ e, c e * c e

/-- The coordinate of a read along a cluster's direction, expanded. -/
def dotKernel (x c d : Fin 64 → EReal) : EReal :=
  (∑ e, unitKernel d e * x e) - ∑ e, unitKernel d e * c e

/-- A Gaussian's log likelihood of the squared distance `s` at log scale `l`, `n` being minus the dimension. -/
def gaussKernel (n s l : EReal) : EReal :=
  n * l - s * (lit 0x3F000000#32 * Ideal.exp (lit 0xC0000000#32 * l))

/-- The point at which a read's skew term takes the complementary error function. -/
def skewAt (v dot mu lam : EReal) : EReal :=
  Ideal.div (mu + lam * v - dot) (Ideal.sqrt (lit 0x40000000#32 * v))

/-- The exponentially modified Gaussian's log likelihood along the direction, `g` the complementary error function. -/
def skewKernel (g : EReal → EReal) (dot mu ls ll : EReal) : EReal :=
  ll - lit 0x3F317218#32 + Ideal.log (g (skewAt (Ideal.exp (lit 0x40000000#32 * ls)) dot mu (Ideal.exp ll)))
    + lit 0x3F000000#32 * Ideal.exp ll
      * (mu + (mu + Ideal.exp ll * Ideal.exp (lit 0x40000000#32 * ls)) - lit 0x40000000#32 * dot)

/-- A read's log likelihood as an artifact of one cluster. -/
def artKernel (g : EReal → EReal) (x c d : Fin 64 → EReal) (mu ls ll las : EReal) : EReal :=
  gaussKernel (lit 0xC27C0000#32) (distKernel x c - dotKernel x c d * dotKernel x c d) las
    + skewKernel g (dotKernel x c d) mu ls ll

/-- A read's log likelihood as no artifact. -/
def cleanKernel (x c : Fin 64 → EReal) (ls : EReal) : EReal := gaussKernel (lit 0xC2800000#32) (distKernel x c) ls

/-! ## The same, as the reference spells it -/

/-- The length of a vector of 64 numbers. -/
def length64 (v : Fin 64 → EReal) : EReal := Ideal.sqrt (∑ e, v e * v e)

/-- A cluster's direction divided by its length. -/
def unitPlain (d : Fin 64 → EReal) (e : Fin 64) : EReal := Ideal.div (d e) (length64 d)

/-- The coordinate of a read along a cluster's direction. -/
def dotPlain (x c d : Fin 64 → EReal) : EReal := ∑ e, (x e - c e) * unitPlain d e

/-- A Gaussian's log likelihood of the distance `r` at log scale `l`. -/
def gaussPlain (n r l : EReal) : EReal :=
  n * l - Ideal.div (r * r) (lit 0x40000000#32 * (Ideal.exp l * Ideal.exp l))

/-- The exponentially modified Gaussian's log likelihood, as `emg_log_likelihood` has it. -/
def skewPlain (g : EReal → EReal) (dot mu ls ll : EReal) : EReal :=
  ll - lit 0x3F317218#32 + Ideal.log (g (skewAt (Ideal.exp ls * Ideal.exp ls) dot mu (Ideal.exp ll)))
    + Ideal.div (Ideal.exp ll) (lit 0x40000000#32)
      * (lit 0x40000000#32 * mu + Ideal.exp ll * (Ideal.exp ls * Ideal.exp ls) - lit 0x40000000#32 * dot)

/-- A read's log likelihood as an artifact of one cluster. -/
def artPlain (g : EReal → EReal) (x c d : Fin 64 → EReal) (mu ls ll las : EReal) : EReal :=
  gaussPlain (lit 0xC27C0000#32) (length64 fun e => x e - c e - dotPlain x c d * unitPlain d e) las
    + skewPlain g (dotPlain x c d) mu ls ll

/-- A read's log likelihood as no artifact. -/
def cleanPlain (x c : Fin 64 → EReal) (ls : EReal) : EReal :=
  gaussPlain (lit 0xC2800000#32) (length64 fun e => x e - c e) ls

/-! ## The last step: the weights' log softmax and the log of a sum of exponentials -/

/-- The largest of four numbers. -/
def top4 (a : Fin 4 → EReal) : EReal := (Finset.univ : Finset (Fin 4)).fold max (lit 0xFF800000#32) a

/-- The kernel's log softmax: one subtraction of the log of the sum of exponentials. -/
def softKernel (w : Fin 4 → EReal) (k : Fin 4) : EReal :=
  w k - (top4 w + Ideal.log (∑ j, Ideal.exp (w j - top4 w)))

/-- The reference's log softmax: shifted by the largest weight first. -/
def softPlain (w : Fin 4 → EReal) (k : Fin 4) : EReal :=
  w k - top4 w - Ideal.log (∑ j, Ideal.exp (w j - top4 w))

/-- The kernel's log of a sum of exponentials. -/
def lseKernel (a : Fin 4 → EReal) : EReal := top4 a + Ideal.log (∑ j, Ideal.exp (a j - top4 a))

/-- The largest of four numbers where it is finite, else zero. -/
def shift4 (a : Fin 4 → EReal) : EReal :=
  Scalar.select (below (mag (top4 a)) (lit 0x7F800000#32)) (top4 a) 0

/-- The reference's log of a sum of exponentials. -/
def lsePlain (a : Fin 4 → EReal) : EReal := Ideal.log (∑ j, Ideal.exp (a j - shift4 a)) + shift4 a

end Cert.Mix
-- ==== Proof.Layout.lean ====
/-
  Two-axis arrays read at an index: a column or a row broadcast, a row's sum and largest entry kept as a column, and
  the product with a transposed right operand, for any extents.
-/
module

public import Idealize.ShloMosaic.Lib.MatmulPlain
public import Idealize.ShloMosaic.Lib.ValueIdx
public import Idealize.ShloMosaic.Lib.ValueIdxCoords
public import Idealize.ShloMosaic.Lib.Pipeline.Value

@[expose] public section

noncomputable section

namespace Cert.Mix

open Idealize.ShloMosaic Idealize.ShloMosaic.ValueIdx

/-- Row `r` of a two-axis array. -/
abbrev rowOf {n m : ℕ} (x : (⟨2, ![n, m]⟩ : Shape).Idx → EReal) (r : Fin n) : Fin m → EReal := fun e => x (ix2 r e)

/-- Entry `k` of a column. -/
abbrev colOf {n : ℕ} (x : (⟨2, ![n, 1]⟩ : Shape).Idx → EReal) (k : Fin n) : EReal := x (ix2 k 0)

variable {n m : ℕ} {α : Type}

/-- A column broadcast over the second axis reads the row's entry. -/
theorem col_apply (x : (⟨2, ![n, 1]⟩ : Shape).Idx → α) (h : (⟨2, ![n, 1]⟩ : Shape).Broadcasts ⟨2, ![n, m]⟩)
    (k : Fin n) (r : Fin m) : broadcastTo ⟨2, ![n, m]⟩ x h (ix2 k r) = x (ix2 k 0) :=
  broadcastTo_apply x h _ _ fun a => by
    match a with
    | ⟨0, _⟩ =>
      show k.val = if n = 1 then 0 else k.val
      split
      · have := k.isLt; omega
      · rfl
    | ⟨1, _⟩ => rfl

/-- A row broadcast over the first axis reads the column's entry. -/
theorem row_apply (x : (⟨2, ![1, m]⟩ : Shape).Idx → α) (h : (⟨2, ![1, m]⟩ : Shape).Broadcasts ⟨2, ![n, m]⟩)
    (k : Fin n) (r : Fin m) : broadcastTo ⟨2, ![n, m]⟩ x h (ix2 k r) = x (ix2 0 r) :=
  broadcastTo_apply x h _ _ fun a => by
    match a with
    | ⟨0, _⟩ => rfl
    | ⟨1, _⟩ =>
      show r.val = if m = 1 then 0 else r.val
      split
      · have := r.isLt; omega
      · rfl

/-- A vector cast to a column reads its entry. -/
theorem asCol_apply (x : (⟨1, ![n]⟩ : Shape).Idx → α) (h : (⟨1, ![n]⟩ : Shape).ShapeCasts ⟨2, ![n, 1]⟩) (k : Fin n) :
    shapeCast ⟨2, ![n, 1]⟩ x h (ix2 k 0) = x (ix1 k) :=
  shapeCast_apply x h _ _ (by
    rw [Shape.rowMajor_val_one, Shape.rowMajor_val_two]
    show k.val = k.val * 1 + 0
    omega)

/-- The index a reduction of the second axis inserts. -/
theorem lift_row (h : (⟨2, ![n, m]⟩ : Shape).Reduces [1] ⟨1, ![n]⟩) (k : Fin n) (e : Fin m) :
    h.lift (ix1 k) e = ix2 k e := by
  funext a
  apply Fin.ext
  refine (h.lift_val (ix1 k) e a).trans ?_
  match a with
  | ⟨0, _⟩ => rfl
  | ⟨1, _⟩ => rfl

/-- A row's sum. -/
theorem rowSum_apply (x : FVec Ideal ⟨2, ![n, m]⟩ .f32) (h : (⟨2, ![n, m]⟩ : Shape).Reduces [1] ⟨1, ![n]⟩)
    (hφ : FKind.Formats .f32) (hacc : 0x00000000#32 = 0x00000000#32) (k : Fin n) :
    multiReduction .add [1] ⟨1, ![n]⟩ x 0x00000000#32 h hφ hacc (ix1 k) = ∑ e : Fin m, x (ix2 k e) := by
  refine (Ideal.multiReduction_add_single x _ h hφ hacc (ix1 k)).trans ?_
  exact Finset.sum_congr rfl fun e _ => congrArg x (lift_row h k e)

/-- A row's largest entry. -/
theorem rowTop_apply (x : FVec Ideal ⟨2, ![n, m]⟩ .f32) (h : (⟨2, ![n, m]⟩ : Shape).Reduces [1] ⟨1, ![n]⟩)
    (hφ : FKind.Formats .f32) (hacc : 0xFF800000#32 = 0xFF800000#32) (k : Fin n) :
    multiReduction .maximumf [1] ⟨1, ![n]⟩ x 0xFF800000#32 h hφ hacc (ix1 k)
      = (Finset.univ : Finset (Fin m)).fold max (Ideal.ofBits .f32 0xFF800000#32) fun e => x (ix2 k e) := by
  refine (Ideal.multiReduction_maximumf_single x _ h hφ hacc (ix1 k)).trans ?_
  exact congrArg (Finset.fold max _ · _) (funext fun e => congrArg x (lift_row h k e))

/-- A product with a transposed right operand into a zero accumulator: the sum over the shared axis. -/
theorem product_apply {K : ℕ} (prec : Option ContractPrecision) (x : FVec Ideal ⟨2, ![n, K]⟩ .f32)
    (y : FVec Ideal ⟨2, ![m, K]⟩ .f32) (r : Fin n) (c : Fin m) :
    FloatOps.matmul (DotDims.transposedRhs n K m) prec x y (constant ⟨2, ![n, m]⟩ .f32 0x00000000#32) (ix2 r c)
      = ∑ k : Fin K, x (ix2 r k) * y (ix2 c k) := by
  rw [Ideal.matmul_transposedRhs_apply]
  show Ideal.ofBits .f32 0x00000000#32 + _ = _
  rw [Ideal.ofBits_zero_f32, zero_add]

end Cert.Mix
-- ==== Proof.RefRows.lean ====
/-
  The reference program's log likelihoods, read at one read and one cluster: they are the plain spellings of Spec.lean.
-/
module

public import proofs.«01_k».proof.Proof.Gen.ReferenceIdeal.Read
public import proofs.«01_k».proof.Proof.Spec
public import proofs.«01_k».proof.Proof.Layout

@[expose] public section

noncomputable section

namespace Cert.Mix.Ref

open Cert.ReferenceIdeal Cert.ReferenceIdeal.Gen Cert.ReferenceIdeal.Read Idealize.ShloMosaic Idealize.ShloMosaic.ValueIdx

variable (x0 : (⟨S32768x64, .f32⟩ : BufTy).Contents (Elt Ideal)) (x1 : (⟨S64, .f32⟩ : BufTy).Contents (Elt Ideal))
  (x2 : (⟨S_, .f32⟩ : BufTy).Contents (Elt Ideal)) (x3 : (⟨S4x64, .f32⟩ : BufTy).Contents (Elt Ideal))
  (x4 x5 x6 x7 : (⟨S4, .f32⟩ : BufTy).Contents (Elt Ideal))

/-- The entries of a vector. -/
abbrev vecOf {n : ℕ} (x : (⟨1, ![n]⟩ : Shape).Idx → EReal) : Fin n → EReal := fun e => x (ix1 e)

/-- A scalar array is read at its one index. -/
theorem scalar_at (p : S_.Idx) : x2 p = x2 ix0 := congrArg x2 (funext fun a => a.elim0)

/-- A read's offset from the centroid. -/
theorem offset_apply (i : Fin 32768) (e : Fin 64) :
    val_main_v2 (F := Ideal) x0 x1 (ix2 i e) = rowOf x0 i e - vecOf x1 e := by
  rw [val_main_v2_apply, val_main_v1_apply, val_main_v0_apply]
  exact congrArg (x0 (ix2 i e) - ·) (congrArg x1 (eq_ix1 _))

/-- A read's distance to the centroid. -/
theorem distance_apply (i : Fin 32768) :
    val_main_v3 (F := Ideal) x0 x1 (ix1 i) = length64 fun e => rowOf x0 i e - vecOf x1 e := by
  rw [val_main_v3_apply, val_main_call0_v1_apply, val_main_call0_cst_apply]
  refine congrArg Ideal.sqrt ((congrArg₂ (· + ·) Ideal.ofBits_zero_f32 (Finset.sum_congr rfl fun e _ => ?_)).trans (zero_add _))
  rw [val_main_call0_v0_apply, show idx_main_call0_v1 (ix1 i) e = ix2 i e from eq_ix2 _, offset_apply]
  rfl

/-- A read's log likelihood as no artifact. -/
theorem clean_apply (i : Fin 32768) :
    val_main_v12 (F := Ideal) x0 x1 x2 (ix1 i) = cleanPlain (rowOf x0 i) (vecOf x1) (x2 ix0) := by
  simp only [val_main_v12_apply, val_main_v11_apply, val_main_v10_apply, val_main_v9_apply, val_main_v8_apply,
    val_main_v7_apply, val_main_v6_apply, val_main_v5_apply, val_main_v4_apply, val_main_cst_0_apply, val_main_cst_1_apply,
    distance_apply, scalar_at]
  rfl

/-- A direction's length. -/
theorem norm_apply (k : Fin 4) (z : Fin 1) : val_main_v13 (F := Ideal) x3 (ix2 k z) = length64 (rowOf x3 k) := by
  rw [val_main_v13_apply, val_main_call1_v2_apply, val_main_call1_v1_apply, val_main_call1_cst_apply]
  refine congrArg Ideal.sqrt ((congrArg₂ (· + ·) Ideal.ofBits_zero_f32 (Finset.sum_congr rfl fun e _ => ?_)).trans (zero_add _))
  rw [val_main_call1_v0_apply, show idx_main_call1_v1 (idx_main_call1_v2 (ix2 k z)) e = ix2 k e from eq_ix2 _]
  rfl

/-- A direction divided by its length. -/
theorem unit_apply (k : Fin 4) (e : Fin 64) : val_main_v15 (F := Ideal) x3 (ix2 k e) = unitPlain (rowOf x3 k) e := by
  rw [val_main_v15_apply, val_main_v14_apply, show idx_main_v14 (ix2 k e) = ix2 k 0 from eq_ix2 _, norm_apply]
  rfl

/-- A read's coordinate along a direction. -/
theorem dot_apply (i : Fin 32768) (k : Fin 4) :
    val_main_v17 (F := Ideal) x0 x1 x3 (ix2 i k) = dotPlain (rowOf x0 i) (vecOf x1) (rowOf x3 k) := by
  rw [val_main_v17_apply]
  refine Finset.sum_congr rfl fun e _ => ?_
  rw [val_main_v16_apply, show lidx_main_v17 (ix2 i k) e = ix2 i e from eq_ix2 _,
    show idx_main_v16 (ridx_main_v17 (ix2 i k) e) = ix2 k e from eq_ix2 _, offset_apply, unit_apply]

/-- A read's distance to the line through the centroid along a direction. -/
theorem residual_apply (i : Fin 32768) (k : Fin 4) :
    val_main_v26 (F := Ideal) x0 x1 x3 (ix2 i k) = length64 fun e =>
      rowOf x0 i e - vecOf x1 e - dotPlain (rowOf x0 i) (vecOf x1) (rowOf x3 k) * unitPlain (rowOf x3 k) e := by
  rw [val_main_v26_apply, val_main_call2_v1_apply, val_main_call2_cst_apply]
  refine congrArg Ideal.sqrt ((congrArg₂ (· + ·) Ideal.ofBits_zero_f32 (Finset.sum_congr rfl fun e _ => ?_)).trans (zero_add _))
  rw [val_main_call2_v0_apply, show idx_main_call2_v1 (ix2 i k) e = ix3 i k e from eq_ix3 _]
  simp only [val_main_v25_apply, val_main_v24_apply, val_main_v23_apply, val_main_v22_apply, val_main_v21_apply,
    val_main_v20_apply, val_main_v19_apply, val_main_v18_apply]
  rw [show idx_main_v23 (idx_main_v24 (ix3 i k e)) = ix2 i e from eq_ix2 _,
    show idx_main_v18 (idx_main_v20 (ix3 i k e)) = ix2 i k from eq_ix2 _,
    show idx_main_v19 (idx_main_v21 (ix3 i k e)) = ix2 k e from eq_ix2 _, offset_apply, dot_apply, unit_apply]
  rfl

/-- The log likelihood of a read's distance to the line along a direction. -/
theorem across_apply (i : Fin 32768) (k : Fin 4) :
    val_main_v39 (F := Ideal) x0 x1 x3 x7 (ix2 i k)
      = gaussPlain (lit 0xC27C0000#32) (length64 fun e =>
          rowOf x0 i e - vecOf x1 e - dotPlain (rowOf x0 i) (vecOf x1) (rowOf x3 k) * unitPlain (rowOf x3 k) e)
          (vecOf x7 k) := by
  simp only [val_main_v39_apply, val_main_v38_apply, val_main_v37_apply, val_main_v36_apply, val_main_v35_apply,
    val_main_v34_apply, val_main_v33_apply, val_main_v32_apply, val_main_v31_apply, val_main_v30_apply,
    val_main_v29_apply, val_main_v28_apply, val_main_v27_apply, val_main_cst_2_apply, val_main_cst_3_apply, residual_apply]
  rw [show idx_main_v27 (idx_main_v38 (ix2 i k)) = ix1 k from eq_ix1 _,
    show idx_main_v31 (idx_main_v36 (ix2 i k)) = ix1 k from eq_ix1 _]
  rfl

/-- The complementary error function of the reference, at one read and one cluster. -/
theorem erfc_apply (p : S32768x4.Idx) :
    val_main_v148 (F := Ideal) x0 x1 x3 x4 x5 x6 p = erfcPlain (val_main_v56 (F := Ideal) x0 x1 x3 x4 x5 x6 p) := by
  simp only [
    val_main_v57_apply, val_main_v58_apply, val_main_v59_apply, val_main_v60_apply, val_main_v61_apply,
    val_main_v62_apply, val_main_cst_5_apply, val_main_v63_apply, val_main_v64_apply, val_main_cst_6_apply,
    val_main_v65_apply, val_main_v66_apply, val_main_cst_7_apply, val_main_v67_apply, val_main_v68_apply,
    val_main_cst_8_apply, val_main_v69_apply, val_main_v70_apply, val_main_v71_apply, val_main_cst_9_apply,
    val_main_v72_apply, val_main_v73_apply, val_main_v74_apply, val_main_cst_10_apply, val_main_v75_apply,
    val_main_v76_apply, val_main_v77_apply, val_main_cst_11_apply, val_main_v78_apply, val_main_v79_apply,
    val_main_v80_apply, val_main_cst_12_apply, val_main_v81_apply, val_main_v82_apply, val_main_v83_apply,
    val_main_cst_13_apply, val_main_v84_apply, val_main_v85_apply, val_main_v86_apply, val_main_cst_14_apply,
    val_main_v87_apply, val_main_v88_apply, val_main_v89_apply, val_main_cst_15_apply, val_main_v90_apply,
    val_main_v91_apply, val_main_cst_16_apply, val_main_v92_apply, val_main_v93_apply, val_main_cst_17_apply,
    val_main_v94_apply, val_main_v95_apply, val_main_cst_18_apply, val_main_v96_apply, val_main_v97_apply,
    val_main_v98_apply, val_main_cst_19_apply, val_main_v99_apply, val_main_v100_apply, val_main_v101_apply,
    val_main_cst_20_apply, val_main_v102_apply, val_main_v103_apply, val_main_v104_apply, val_main_cst_21_apply,
    val_main_v105_apply, val_main_v106_apply, val_main_v107_apply, val_main_cst_22_apply, val_main_v108_apply,
    val_main_v109_apply, val_main_v110_apply, val_main_cst_23_apply, val_main_v111_apply, val_main_v112_apply,
    val_main_v113_apply, val_main_cst_24_apply, val_main_v114_apply, val_main_v115_apply, val_main_v116_apply,
    val_main_v117_apply, val_main_v118_apply, val_main_cst_25_apply, val_main_v119_apply, val_main_v120_apply,
    val_main_cst_26_apply, val_main_v121_apply, val_main_v122_apply, val_main_cst_27_apply, val_main_v123_apply,
    val_main_v124_apply, val_main_v125_apply, val_main_cst_28_apply, val_main_v126_apply, val_main_v127_apply,
    val_main_v128_apply, val_main_cst_29_apply, val_main_v129_apply, val_main_v130_apply, val_main_v131_apply,
    val_main_cst_30_apply, val_main_v132_apply, val_main_v133_apply, val_main_v134_apply, val_main_cst_31_apply,
    val_main_v135_apply, val_main_v136_apply, val_main_v137_apply, val_main_cst_32_apply, val_main_v138_apply,
    val_main_v139_apply, val_main_v140_apply, val_main_cst_33_apply, val_main_v141_apply, val_main_v142_apply,
    val_main_cst_34_apply, val_main_v143_apply, val_main_v144_apply, val_main_cst_35_apply, val_main_v145_apply,
    val_main_v146_apply, val_main_v147_apply, val_main_v148_apply]
  rfl

/-- The point at which it is taken. -/
theorem skewAt_apply (i : Fin 32768) (k : Fin 4) :
    val_main_v56 (F := Ideal) x0 x1 x3 x4 x5 x6 (ix2 i k)
      = skewAt (Ideal.exp (vecOf x5 k) * Ideal.exp (vecOf x5 k)) (dotPlain (rowOf x0 i) (vecOf x1) (rowOf x3 k))
          (vecOf x4 k) (Ideal.exp (vecOf x6 k)) := by
  simp only [val_main_v56_apply, val_main_v55_apply, val_main_v54_apply, val_main_v53_apply, val_main_v52_apply,
    val_main_cst_4_apply, val_main_v51_apply, val_main_v50_apply, val_main_v49_apply, val_main_v48_apply,
    val_main_v45_apply, val_main_v44_apply, val_main_v43_apply, val_main_v42_apply, val_main_v41_apply,
    val_main_v40_apply, dot_apply]
  rw [show idx_main_v40 (idx_main_v50 (ix2 i k)) = ix1 k from eq_ix1 _,
    show idx_main_v41 (idx_main_v50 (ix2 i k)) = ix1 k from eq_ix1 _,
    show idx_main_v42 (idx_main_v50 (ix2 i k)) = ix1 k from eq_ix1 _]
  rfl

/-- The exponentially modified Gaussian's log likelihood of a read's coordinate along a direction. -/
theorem along_apply (i : Fin 32768) (k : Fin 4) :
    val_main_v164 (F := Ideal) x0 x1 x3 x4 x5 x6 (ix2 i k)
      = skewPlain erfcPlain (dotPlain (rowOf x0 i) (vecOf x1) (rowOf x3 k)) (vecOf x4 k) (vecOf x5 k) (vecOf x6 k) := by
  simp only [
    val_main_v149_apply, val_main_v150_apply, val_main_v151_apply, val_main_cst_36_apply, val_main_v152_apply,
    val_main_v153_apply, val_main_cst_37_apply, val_main_v154_apply, val_main_v155_apply, val_main_v156_apply,
    val_main_v157_apply, val_main_cst_38_apply, val_main_v158_apply, val_main_v159_apply, val_main_v160_apply,
    val_main_v161_apply, val_main_v162_apply, val_main_v163_apply, val_main_v164_apply,
    erfc_apply, skewAt_apply, dot_apply, val_main_v47_apply, val_main_v46_apply, val_main_cst_apply, val_main_v45_apply,
    val_main_v44_apply, val_main_v43_apply, val_main_v42_apply, val_main_v41_apply, val_main_v40_apply]
  rw [show idx_main_v42 (idx_main_v150 (ix2 i k)) = ix1 k from eq_ix1 _,
    show idx_main_v40 (idx_main_v160 (ix2 i k)) = ix1 k from eq_ix1 _,
    show idx_main_v41 (idx_main_v160 (ix2 i k)) = ix1 k from eq_ix1 _]
  rfl

/-- A read's log likelihood as an artifact of one cluster. -/
theorem art_apply (i : Fin 32768) (k : Fin 4) :
    val_main_v166 (F := Ideal) x0 x1 x3 x4 x5 x6 x7 (ix2 i k)
      = artPlain erfcPlain (rowOf x0 i) (vecOf x1) (rowOf x3 k) (vecOf x4 k) (vecOf x5 k) (vecOf x6 k) (vecOf x7 k) := by
  rw [val_main_v166_apply, across_apply, along_apply]
  rfl

end Cert.Mix.Ref
-- ==== Proof.RowLaws.lean ====
/-
  One read and one cluster: the kernel's spelling of each log likelihood equals the reference's, over the extended reals.
-/
module

public import proofs.«01_k».proof.Proof.Spec

@[expose] public section

noncomputable section

namespace Cert.Mix

open Idealize.ShloMosaic

/-! ## The literals -/

theorem lit_neg64 : lit 0xC2800000#32 = ((-64 : ℝ) : EReal) := by
  simp [Ideal.ofBits, Ideal.ieee, -EReal.coe_mul, -EReal.coe_neg]; norm_num
theorem lit_neg63 : lit 0xC27C0000#32 = ((-63 : ℝ) : EReal) := by
  simp [Ideal.ofBits, Ideal.ieee, -EReal.coe_mul, -EReal.coe_neg]; norm_num
theorem lit_neg2 : lit 0xC0000000#32 = ((-2 : ℝ) : EReal) := by
  simp [Ideal.ofBits, Ideal.ieee, -EReal.coe_mul, -EReal.coe_neg]; norm_num
theorem lit_two : lit 0x40000000#32 = ((2 : ℝ) : EReal) := by
  simp [Ideal.ofBits, Ideal.ieee, -EReal.coe_mul, -EReal.coe_neg]; norm_num
theorem lit_half : lit 0x3F000000#32 = ((1 / 2 : ℝ) : EReal) := by
  simp [Ideal.ofBits, Ideal.ieee, -EReal.coe_mul, -EReal.coe_neg]; norm_num
theorem lit_one : lit 0x3F800000#32 = ((1 : ℝ) : EReal) := by
  simp [Ideal.ofBits, Ideal.ieee, -EReal.coe_mul, -EReal.coe_neg]
theorem lit_zero : lit 0x00000000#32 = ((0 : ℝ) : EReal) := by
  simp [Ideal.ofBits, Ideal.ieee]
theorem lit_top : lit 0x7F800000#32 = ⊤ := by simp [Ideal.ofBits, Ideal.ieee]
theorem lit_bot : lit 0xFF800000#32 = ⊥ := by simp [Ideal.ofBits, Ideal.ieee]

/-- A word whose exponent bits are not all ones denotes a real number. -/
theorem lit_real (b : BitVec 32) (h : (b.extractLsb' 23 8).toNat ≠ 255) : ∃ r : ℝ, lit b = (r : EReal) := by
  show ∃ r : ℝ, Ideal.ieee 8 23 b = (r : EReal)
  unfold Ideal.ieee
  dsimp only
  rw [if_neg (by simpa using h)]
  split
  · exact ⟨_, rfl⟩
  · exact ⟨_, rfl⟩

/-! ## Selections and comparisons -/

theorem select_below (x y a b : EReal) : Scalar.select (below x y) a b = if x < y then a else b := by
  unfold below Ideal.cmp Scalar.select
  by_cases h : x < y <;> simp [h]

/-! ## The complementary error function -/

/-- The two spellings of the complementary error function agree at every extended real. -/
theorem erfcKernel_eq (z : EReal) : erfcKernel z = erfcPlain z := by
  unfold erfcKernel erfcPlain tailPlain
  simp only [select_below, lit_one, lit_two, lit_zero]
  by_cases h1 : mag z < ((1 : ℝ) : EReal)
  · simp only [if_pos h1]
  · simp only [if_neg h1]
    have hz : mag z ≠ 0 := by
      intro h; apply h1; rw [h]; exact_mod_cast zero_lt_one
    have hz0 : z ≠ 0 := by
      intro h; apply hz; simp [mag, h]
    have hzz : z * z ≠ 0 := by simpa using hz0
    have hm : mag z * mag z = z * z := by
      unfold mag
      rcases max_choice z (-z) with h | h <;> rw [h]
      simp
    have hq : Ideal.div ((1 : ℝ) : EReal) (mag z) * Ideal.div ((1 : ℝ) : EReal) (mag z)
        = Ideal.div ((1 : ℝ) : EReal) (z * z) := by
      unfold Ideal.div
      rw [if_neg hz, if_neg hzz, ← hm, EReal.mul_inv]
      simp
    have ht : Ideal.exp ((((0 : ℝ) : EReal) - z) * z) * Ideal.div ((1 : ℝ) : EReal) (mag z)
        = Ideal.div (Ideal.exp (-(z * z))) (mag z) := by
      unfold Ideal.div
      rw [if_neg hz, if_neg hz]
      simp
    rw [hq, ht]

/-- A polynomial step of reals is real. -/
theorem horner_real {p y : EReal} (b : BitVec 32) (h : (b.extractLsb' 23 8).toNat ≠ 255)
    (hp : ∃ r : ℝ, p = (r : EReal)) (hy : ∃ r : ℝ, y = (r : EReal)) : ∃ r : ℝ, p * y + lit b = (r : EReal) := by
  obtain ⟨p, rfl⟩ := hp
  obtain ⟨y, rfl⟩ := hy
  obtain ⟨l, hl⟩ := lit_real b h
  exact ⟨p * y + l, by rw [hl]; push_cast; rfl⟩

theorem tailNear_real {y : EReal} (hy : ∃ r : ℝ, y = (r : EReal)) : ∃ r : ℝ, tailNear y = (r : EReal) := by
  unfold tailNear
  exact horner_real _ (by decide) (horner_real _ (by decide) (horner_real _ (by decide) (horner_real _ (by decide)
    (horner_real _ (by decide) (horner_real _ (by decide) (horner_real _ (by decide) (horner_real _ (by decide)
      (lit_real _ (by decide)) hy) hy) hy) hy) hy) hy) hy) hy

theorem tailFar_real {y : EReal} (hy : ∃ r : ℝ, y = (r : EReal)) : ∃ r : ℝ, tailFar y = (r : EReal) := by
  unfold tailFar
  exact horner_real _ (by decide) (horner_real _ (by decide) (horner_real _ (by decide)
    (horner_real _ (by decide) (horner_real _ (by decide) (horner_real _ (by decide) (horner_real _ (by decide)
      (lit_real _ (by decide)) hy) hy) hy) hy) hy) hy) hy

theorem nearZero_real {y : EReal} (hy : ∃ r : ℝ, y = (r : EReal)) : ∃ r : ℝ, nearZero y = (r : EReal) := by
  unfold nearZero
  exact horner_real _ (by decide) (horner_real _ (by decide)
    (horner_real _ (by decide) (horner_real _ (by decide) (horner_real _ (by decide) (horner_real _ (by decide)
      (lit_real _ (by decide)) hy) hy) hy) hy) hy) hy

theorem div_real {a b : EReal} (hb : b ≠ 0) (ha : ∃ r : ℝ, a = (r : EReal)) :
    ∃ r : ℝ, Ideal.div a b = (r : EReal) := by
  obtain ⟨a, rfl⟩ := ha
  unfold Ideal.div
  rw [if_neg hb]
  induction b using EReal.rec with
  | bot => exact ⟨0, by simp⟩
  | top => exact ⟨0, by simp⟩
  | coe b => exact ⟨a * b⁻¹, by push_cast; rfl⟩

theorem one_le_mag_ne {z : EReal} (h1 : ¬ mag z < ((1 : ℝ) : EReal)) : mag z ≠ 0 ∧ z * z ≠ 0 := by
  have hz : mag z ≠ 0 := by
    intro h; apply h1; rw [h]; exact_mod_cast zero_lt_one
  refine ⟨hz, fun h => hz ?_⟩
  have : z = 0 := by simpa using h
  simp [mag, this]

/-- What the exponential of minus a square is: a real number. -/
theorem exp_neg_sq_real (z : EReal) : ∃ r : ℝ, Ideal.exp (-(z * z)) = (r : EReal) := by
  induction z using EReal.rec with
  | bot => exact ⟨0, by simp⟩
  | top => exact ⟨0, by simp⟩
  | coe z => exact ⟨Real.exp (-(z * z)), by rw [← EReal.coe_mul, ← EReal.coe_neg, Ideal.exp_coe]⟩

theorem tailPlain_real {z : EReal} (h1 : ¬ mag z < ((1 : ℝ) : EReal)) : ∃ r : ℝ, tailPlain z = (r : EReal) := by
  obtain ⟨hm, hs⟩ := one_le_mag_ne h1
  have hq : ∃ r : ℝ, Ideal.div (lit 0x3F800000#32) (z * z) = (r : EReal) := div_real hs ⟨1, lit_one⟩
  obtain ⟨a, ha⟩ := div_real hm (exp_neg_sq_real z)
  have hp : ∃ r : ℝ, Scalar.select (below (mag z) (lit 0x40000000#32)) (tailNear (Ideal.div (lit 0x3F800000#32) (z * z)))
        (tailFar (Ideal.div (lit 0x3F800000#32) (z * z))) = (r : EReal) := by
    rw [select_below]
    split
    · exact tailNear_real hq
    · exact tailFar_real hq
  obtain ⟨b, hb⟩ := hp
  exact ⟨a * b, by unfold tailPlain; rw [ha, hb]; push_cast; rfl⟩

/-- The reference's complementary error function is a real number everywhere. -/
theorem erfcPlain_real (z : EReal) : ∃ r : ℝ, erfcPlain z = (r : EReal) := by
  unfold erfcPlain
  rw [select_below, select_below, lit_one, lit_two]
  by_cases h1 : mag z < ((1 : ℝ) : EReal)
  · rw [if_pos h1]
    have hz : ∃ r : ℝ, z = (r : EReal) := by
      induction z using EReal.rec with
      | bot => exact absurd h1 (by simp [mag])
      | top => exact absurd h1 (by simp [mag])
      | coe z => exact ⟨z, rfl⟩
    obtain ⟨z, rfl⟩ := hz
    obtain ⟨p, hp⟩ := nearZero_real (y := (z : EReal) * z) ⟨z * z, by push_cast; rfl⟩
    exact ⟨1 - z * p, by rw [hp]; push_cast; rfl⟩
  · rw [if_neg h1]
    obtain ⟨t, ht⟩ := tailPlain_real h1
    split
    · exact ⟨2 - t, by rw [ht]; push_cast; rfl⟩
    · exact ⟨t, ht⟩

/-- The reference's complementary error function vanishes at infinity. -/
theorem erfcPlain_top : erfcPlain ⊤ = 0 := by
  unfold erfcPlain
  have h1 : ¬ mag (⊤ : EReal) < ((1 : ℝ) : EReal) := by simp [mag]
  rw [select_below, select_below, lit_one, if_neg h1, lit_zero, if_neg (by simp)]
  have : Ideal.exp (-((⊤ : EReal) * ⊤)) = 0 := by simp
  unfold tailPlain
  rw [this]
  simp [Ideal.div, mag]

/-- The logarithm of a complementary error function is never `+∞`, and it is `-∞` at `+∞`: all the skew term's
    equation asks of it. -/
structure Tail (g : EReal → EReal) : Prop where
  log_ne_top : ∀ z, Ideal.log (g z) ≠ ⊤
  log_top : Ideal.log (g ⊤) = ⊥

theorem log_ne_top_of_real {x : EReal} (h : ∃ r : ℝ, x = (r : EReal)) : Ideal.log x ≠ ⊤ := by
  obtain ⟨r, rfl⟩ := h
  rw [Ideal.log_coe]
  split
  · simp
  · exact EReal.coe_ne_top _

theorem tail_plain : Tail erfcPlain where
  log_ne_top z := log_ne_top_of_real (erfcPlain_real z)
  log_top := by rw [erfcPlain_top]; exact (Ideal.log_coe (r := 0)).trans (if_pos le_rfl)

end Cert.Mix
-- ==== Proof.GaussLaws.lean ====
/-
  A read's distances: the kernel expands the squared distance to the centroid and takes the part orthogonal to a
  cluster's direction by Pythagoras; the reference sums the squares of differences. Both give one real number when the
  read and the centroid are finite and the direction's sum of squares is positive, and the Gaussian and the skew terms of
  it agree at every log scale the precondition allows.
-/
module

public import proofs.«01_k».proof.Proof.RowLaws

@[expose] public section

noncomputable section

namespace Cert.Mix

open Idealize.ShloMosaic

/-- A sum of reals read in the extended reals is the real sum. -/
theorem sum_coe {ι : Type} (s : Finset ι) (f : ι → ℝ) : ∑ e ∈ s, ((f e : ℝ) : EReal) = ((∑ e ∈ s, f e : ℝ) : EReal) := by
  classical
  induction s using Finset.induction_on with
  | empty => simp
  | insert a s ha ih => rw [Finset.sum_insert ha, Finset.sum_insert ha, ih, EReal.coe_add]

/-- The real direction divided by its length. -/
def unitR (d : Fin 64 → ℝ) (e : Fin 64) : ℝ := d e * (Real.sqrt (∑ i, d i * d i))⁻¹

/-- The coordinate of a real read along a real vector `u`. -/
def dotR (x c u : Fin 64 → ℝ) : ℝ := ∑ e, (x e - c e) * u e

/-- The squared distance as a real number. -/
def distR (x c : Fin 64 → ℝ) : ℝ := ∑ e, (x e - c e) * (x e - c e)

theorem distR_nonneg (x c : Fin 64 → ℝ) : 0 ≤ distR x c := Finset.sum_nonneg fun e _ => mul_self_nonneg _

/-- The length of a real vector. -/
theorem length64_coe (v : Fin 64 → ℝ) : length64 (fun i => (v i : EReal)) = (Real.sqrt (∑ i, v i * v i) : EReal) := by
  unfold length64
  simp only [← EReal.coe_mul, sum_coe]
  rw [Ideal.sqrt_coe, if_neg (not_lt.mpr (Finset.sum_nonneg fun e _ => mul_self_nonneg _))]

theorem distKernel_coe (x c : Fin 64 → ℝ) :
    distKernel (fun e => (x e : EReal)) (fun e => (c e : EReal)) = (distR x c : EReal) := by
  unfold distKernel distR
  rw [lit_one, lit_two]
  simp only [← EReal.coe_mul, sum_coe, ← EReal.coe_sub, ← EReal.coe_add]
  congr 1
  rw [Finset.mul_sum, ← Finset.sum_sub_distrib, ← Finset.sum_add_distrib]
  exact Finset.sum_congr rfl fun e _ => by ring

/-! ## The scaled direction -/

/-- Both spellings scale the direction `d` to the real vector `u`, of length one, or zero where `d` is infinite. -/
structure Scaled (d : Fin 64 → EReal) (u : Fin 64 → ℝ) : Prop where
  kernel : ∀ e, unitKernel d e = (u e : EReal)
  plain : ∀ e, unitPlain d e = (u e : EReal)
  length : ∑ e, u e * u e = 1 ∨ ∀ e, u e = 0

theorem scaled_real (d : Fin 64 → ℝ) (hd : 0 < ∑ i, d i * d i) : Scaled (fun i => (d i : EReal)) (unitR d) where
  kernel e := by
    unfold unitKernel unitR
    simp only [← EReal.coe_mul, sum_coe]
    rw [Ideal.rsqrt_coe, if_neg (not_lt.mpr hd.le), if_neg hd.ne', ← EReal.coe_mul]
  plain e := by
    unfold unitPlain unitR
    rw [length64_coe, Ideal.div_coe (Real.sqrt_pos.mpr hd).ne', ← EReal.coe_mul, one_div]
  length := by
    have h : ∀ e, unitR d e * unitR d e = (d e * d e) * (∑ i, d i * d i)⁻¹ := fun e => by
      unfold unitR
      rw [mul_mul_mul_comm, ← mul_inv, Real.mul_self_sqrt hd.le]
    simp only [h]
    rw [← Finset.sum_mul, mul_inv_cancel₀ hd.ne']
    exact Or.inl rfl

/-- A square is not negative. -/
theorem square_nonneg (a : EReal) : 0 ≤ a * a := by
  induction a with
  | bot => simp
  | top => simp
  | coe r => rw [← EReal.coe_mul]; exact EReal.coe_nonneg.2 (mul_self_nonneg r)

/-- A direction whose sum of squares is infinite is scaled to zero. -/
theorem scaled_infinite (d : Fin 64 → EReal) (h : ∑ i, d i * d i = ⊤) : Scaled d fun _ => 0 where
  kernel e := by
    unfold unitKernel
    rw [h, show Ideal.rsqrt ⊤ = 0 from rfl, mul_zero, EReal.coe_zero]
  plain e := by
    unfold unitPlain length64
    rw [h, show Ideal.sqrt ⊤ = ⊤ from rfl]
    unfold Ideal.div
    rw [if_neg EReal.top_ne_zero, EReal.inv_top, mul_zero, EReal.coe_zero]
  length := Or.inr fun _ => rfl

/-- Every direction whose sum of squares is positive is scaled to a real vector. -/
theorem exists_scaled (d : Fin 64 → EReal) (hd : 0 < ∑ i, d i * d i) : ∃ u, Scaled d u := by
  by_cases hf : ∀ e, d e ≠ ⊤ ∧ d e ≠ ⊥
  · have hr : ∀ e, ∃ r : ℝ, d e = (r : EReal) := fun e => ⟨_, (EReal.coe_toReal (hf e).1 (hf e).2).symm⟩
    choose r hr using hr
    obtain rfl : d = fun e => (r e : EReal) := funext hr
    simp only [← EReal.coe_mul, sum_coe] at hd
    exact ⟨_, scaled_real r (EReal.coe_pos.1 hd)⟩
  · obtain ⟨e, he⟩ := not_forall.1 hf
    have ht : d e * d e = ⊤ := by
      by_cases h1 : d e = ⊤
      · rw [h1, EReal.top_mul_top]
      · rw [not_not.1 fun h2 => he ⟨h1, h2⟩, EReal.bot_mul_bot]
    exact ⟨_, scaled_infinite d (top_le_iff.1 (ht ▸ Finset.single_le_sum (fun i _ => square_nonneg (d i)) (Finset.mem_univ e)))⟩

section
variable {d : Fin 64 → EReal} {u : Fin 64 → ℝ} (hu : Scaled d u) (x c : Fin 64 → ℝ)
include hu

theorem dotKernel_coe : dotKernel (fun e => (x e : EReal)) (fun e => (c e : EReal)) d = (dotR x c u : EReal) := by
  unfold dotKernel dotR
  simp only [hu.kernel, ← EReal.coe_mul, sum_coe, ← EReal.coe_sub]
  congr 1
  rw [← Finset.sum_sub_distrib]
  exact Finset.sum_congr rfl fun e _ => by ring

theorem dotPlain_coe : dotPlain (fun e => (x e : EReal)) (fun e => (c e : EReal)) d = (dotR x c u : EReal) := by
  unfold dotPlain dotR
  simp only [hu.plain, ← EReal.coe_sub, ← EReal.coe_mul, sum_coe]

/-- Pythagoras: what is left of a read's squared distance after its part along the direction. -/
theorem pythagoras :
    ∑ e, (x e - c e - dotR x c u * u e) * (x e - c e - dotR x c u * u e) = distR x c - dotR x c u * dotR x c u := by
  have h : ∀ e, (x e - c e - dotR x c u * u e) * (x e - c e - dotR x c u * u e)
      = (x e - c e) * (x e - c e) - 2 * dotR x c u * ((x e - c e) * u e) + dotR x c u * dotR x c u * (u e * u e) :=
    fun e => by ring
  have hl : dotR x c u * dotR x c u * ∑ e, u e * u e = dotR x c u * dotR x c u := by
    rcases hu.length with h1 | h0
    · rw [h1, mul_one]
    · simp [dotR, h0]
  simp only [h]
  rw [Finset.sum_add_distrib, Finset.sum_sub_distrib, ← Finset.mul_sum, ← Finset.mul_sum, hl]
  show distR x c - 2 * dotR x c u * dotR x c u + _ = _
  ring

end

/-! ## The Gaussian term -/

/-- The Gaussian term at a real squared distance: scaling by `exp(-2l) / 2` is dividing by twice the square of `exp l`,
    at the infinite log scales too. -/
theorem gauss_eq (n s : ℝ) (hn : n < 0) (hs : 0 ≤ s) (l : EReal) :
    gaussKernel (n : EReal) (s : EReal) l = gaussPlain (n : EReal) (Real.sqrt s : EReal) l := by
  unfold gaussKernel gaussPlain
  rw [← EReal.coe_mul, Real.mul_self_sqrt hs, lit_half, lit_neg2, lit_two]
  induction l using EReal.rec with
  | bot =>
    have hn' : (n : EReal) * ⊥ = ⊤ := EReal.coe_mul_bot_of_neg hn
    have h2 : ((-2 : ℝ) : EReal) * ⊥ = ⊤ := EReal.coe_mul_bot_of_neg (by norm_num)
    have hh : ((1 / 2 : ℝ) : EReal) * ⊤ = ⊤ := EReal.coe_mul_top_of_pos (by norm_num)
    rw [hn', h2, Ideal.exp_top, hh, Ideal.exp_bot, mul_zero, mul_zero]
    rcases hs.eq_or_lt with rfl | hs
    · simp [Ideal.div]
    · rw [EReal.coe_mul_top_of_pos hs]
      have : (0 : EReal) < (s : EReal) := by exact_mod_cast hs
      simp [Ideal.div, this]
  | top =>
    have hn' : (n : EReal) * ⊤ = ⊥ := EReal.coe_mul_top_of_neg hn
    rw [hn', sub_eq_add_neg, sub_eq_add_neg, EReal.bot_add, EReal.bot_add]
  | coe l =>
    rw [Ideal.exp_coe, ← EReal.coe_mul, ← EReal.coe_mul (-2), Ideal.exp_coe, ← EReal.coe_mul, ← EReal.coe_mul, ← EReal.coe_mul, ← EReal.coe_mul,
      Ideal.div_coe (by positivity), ← EReal.coe_mul]
    congr 3
    rw [← Real.exp_add]
    have : Real.exp (-2 * l) = (Real.exp (l + l))⁻¹ := by rw [← Real.exp_neg]; congr 1; ring
    rw [this]
    have := (Real.exp_pos (l + l)).ne'
    field_simp

/-- The Gaussian term is never `+∞` above the log scale `-∞`. -/
theorem gauss_ne_top (n s : ℝ) (hn : n < 0) (hs : 0 ≤ s) (l : EReal) (hl : l ≠ ⊥) :
    gaussKernel (n : EReal) (s : EReal) l ≠ ⊤ := by
  unfold gaussKernel
  rw [lit_half, lit_neg2]
  induction l using EReal.rec with
  | bot => exact absurd rfl hl
  | top =>
    have hn' : (n : EReal) * ⊤ = ⊥ := EReal.coe_mul_top_of_neg hn
    rw [hn', sub_eq_add_neg, EReal.bot_add]
    exact bot_ne_top
  | coe l =>
    rw [← EReal.coe_mul, ← EReal.coe_mul, Ideal.exp_coe, ← EReal.coe_mul, ← EReal.coe_mul, ← EReal.coe_sub]
    exact EReal.coe_ne_top _

/-! ## The skew term -/

theorem two_mul_ereal (a : EReal) : ((2 : ℝ) : EReal) * a = a + a := by
  induction a using EReal.rec with
  | bot => rw [EReal.coe_mul_bot_of_pos two_pos]; rfl
  | top => rw [EReal.coe_mul_top_of_pos two_pos]; rfl
  | coe a => rw [← EReal.coe_mul, ← EReal.coe_add, two_mul]

/-- The skew term at a real log sigma: the two spellings differ by the ways they write the variance, the half and the
    doubled mean. -/
theorem skew_eq (g : EReal → EReal) (dot mu ll : EReal) (ls : ℝ) :
    skewKernel g dot mu ls ll = skewPlain g dot mu ls ll := by
  have hv : Ideal.exp (((2 : ℝ) : EReal) * (ls : EReal)) = Ideal.exp (ls : EReal) * Ideal.exp (ls : EReal) := by
    rw [← EReal.coe_mul, Ideal.exp_coe, Ideal.exp_coe, ← EReal.coe_mul, ← Real.exp_add, two_mul]
  have hh : ((1 / 2 : ℝ) : EReal) * Ideal.exp ll = Ideal.div (Ideal.exp ll) ((2 : ℝ) : EReal) := by
    rw [Ideal.div_coe two_ne_zero, mul_comm]
  unfold skewKernel skewPlain
  rw [lit_two, lit_half, hv, hh, two_mul_ereal mu, add_assoc mu mu]

/-- The skew term is never `+∞` at a real coordinate and a real log sigma, whatever the mean and the log rate are. -/
theorem skew_ne_top {g : EReal → EReal} (hg : Tail g) (dot : ℝ) (mu ll : EReal) (ls : ℝ) :
    skewKernel g dot mu ls ll ≠ ⊤ := by
  obtain ⟨L, hL⟩ := lit_real 0x3F317218#32 (by decide)
  unfold skewKernel skewAt
  rw [lit_two, lit_half, hL, ← EReal.coe_mul, Ideal.exp_coe]
  have hv : 0 < Real.exp (2 * ls) := Real.exp_pos _
  generalize Real.exp (2 * ls) = v at hv
  have hsq : Ideal.sqrt (((2 : ℝ) : EReal) * (v : EReal)) = (Real.sqrt (2 * v) : EReal) := by
    rw [← EReal.coe_mul, Ideal.sqrt_coe, if_neg (by linarith)]
  have hpos : 0 < Real.sqrt (2 * v) := Real.sqrt_pos.mpr (by linarith)
  have hpos' : 0 < 1 / Real.sqrt (2 * v) := by positivity
  rw [hsq, Ideal.div_coe hpos.ne']
  generalize 1 / Real.sqrt (2 * v) = q at hpos'
  induction ll using EReal.rec with
  | bot => rw [sub_eq_add_neg, EReal.bot_add, EReal.bot_add, EReal.bot_add]; exact bot_ne_top
  | top =>
    rw [Ideal.exp_top, EReal.top_mul_coe_of_pos hv]
    by_cases hmu : mu = ⊥
    · subst hmu
      rw [EReal.bot_add, EReal.bot_add, sub_eq_add_neg ⊥, sub_eq_add_neg ⊥, EReal.bot_add, EReal.bot_add, EReal.coe_mul_top_of_pos (by norm_num),
        EReal.top_mul_bot, EReal.add_bot]
      exact bot_ne_top
    · rw [EReal.add_top_of_ne_bot hmu, EReal.top_sub_coe, EReal.top_sub_coe, EReal.top_mul_coe_of_pos hpos', hg.log_top, EReal.add_bot, EReal.bot_add]
      exact bot_ne_top
  | coe ll =>
    rw [Ideal.exp_coe]
    have hl : 0 < Real.exp ll := Real.exp_pos _
    generalize Real.exp ll = lam at hl
    induction mu using EReal.rec with
    | bot =>
      rw [EReal.bot_add, EReal.bot_add, sub_eq_add_neg ⊥ (((2 : ℝ) : EReal) * _), EReal.bot_add, ← EReal.coe_mul (1 / 2), EReal.coe_mul_bot_of_pos (by positivity),
        EReal.add_bot]
      exact bot_ne_top
    | top =>
      rw [← EReal.coe_mul lam, EReal.top_add_coe, EReal.top_sub_coe, EReal.top_mul_coe_of_pos hpos', hg.log_top, EReal.add_bot,
        EReal.bot_add]
      exact bot_ne_top
    | coe mu =>
      rw [← EReal.coe_sub]
      refine EReal.add_ne_top (EReal.add_ne_top (EReal.coe_ne_top _) (hg.log_ne_top _)) ?_
      simp only [← EReal.coe_mul, ← EReal.coe_add, ← EReal.coe_sub]
      exact EReal.coe_ne_top _

end Cert.Mix
-- ==== Proof.Tame.lean ====
/-
  What the precondition `tame` says of the arguments: the reads, the centroid and the skew scales are real numbers,
  every direction's sum of squares is positive, no spread is minus infinity and no weight is plus infinity.
-/
module

public import proofs.«01_k».proof.Pre_tame
public import proofs.«01_k».proof.Proof.RefRows
public import proofs.«01_k».proof.Proof.GaussLaws
public import Idealize.ShloMosaic.Lib.ReduceAll

@[expose] public section

noncomputable section

namespace Cert.Mix

open Cert.ReferenceIdeal Cert.ReferenceIdeal.Gen Cert.ReferenceIdeal.Read Idealize.ShloMosaic Idealize.ShloMosaic.ValueIdx

/-- A true comparison `x < y`. -/
theorem lt_of_below {x y : EReal} (h : below x y = 1#1) : x < y := by
  by_contra hn
  have : below x y = 0#1 := by simp [below, Ideal.cmp, hn]
  rw [this] at h
  exact absurd h (by decide)

/-- A number of magnitude below infinity is real. -/
theorem real_of_mag {x : EReal} (h : below (mag x) (lit 0x7F800000#32) = 1#1) : ∃ r : ℝ, x = (r : EReal) := by
  have hl := lt_of_below h
  rw [lit_top] at hl
  have h1 : x ≠ ⊤ := fun e => by rw [e] at hl; simp [mag] at hl
  have h2 : x ≠ ⊥ := fun e => by rw [e] at hl; simp [mag] at hl
  exact ⟨x.toReal, (EReal.coe_toReal h1 h2).symm⟩

instance : Subsingleton Cert.Pre_tame.S_.Idx := ⟨fun a b => funext fun i => i.elim0⟩

variable (x0 : (⟨S32768x64, .f32⟩ : BufTy).Contents (Elt Ideal)) (x1 : (⟨S64, .f32⟩ : BufTy).Contents (Elt Ideal))
  (x2 : (⟨S_, .f32⟩ : BufTy).Contents (Elt Ideal)) (x3 : (⟨S4x64, .f32⟩ : BufTy).Contents (Elt Ideal))
  (x4 x5 x6 x7 x8 : (⟨S4, .f32⟩ : BufTy).Contents (Elt Ideal)) (x9 : (⟨S32768, .i32⟩ : BufTy).Contents (Elt Ideal))

/-- The arguments the two programs are compared at. -/
structure Tame : Prop where
  reads : ∃ x : Fin 32768 → Fin 64 → ℝ, ∀ i, rowOf x0 i = fun e => (x i e : EReal)
  centroid : ∃ c : Fin 64 → ℝ, Ref.vecOf x1 = fun e => (c e : EReal)
  directions : ∀ k, 0 < ∑ i, rowOf x3 k i * rowOf x3 k i
  scales : ∃ s : Fin 4 → ℝ, ∀ k, Ref.vecOf x5 k = (s k : EReal)
  spreads : ∀ k, Ref.vecOf x7 k ≠ ⊥
  weights : ∀ k, Ref.vecOf x8 k ≠ ⊤

/-- The precondition read. -/
theorem tame_of_fn [Cert.Pre_tame.Facts]
    (h : Cert.Pre_tame.fn (F := Ideal) x0 x1 x2 x3 x4 x5 x6 x7 x8 x9 = fun _ => 1#1) : Tame x0 x1 x3 x5 x7 x8 := by
  have e := congrFun h ix0
  dsimp only [Cert.Pre_tame.fn, Cert.Pre_tame.fn_part1] at e
  obtain ⟨e, e8⟩ := IntOp.andi_eq_one.1 e
  obtain ⟨e, e7⟩ := IntOp.andi_eq_one.1 e
  obtain ⟨e, e5⟩ := IntOp.andi_eq_one.1 e
  obtain ⟨e, ed⟩ := IntOp.andi_eq_one.1 e
  obtain ⟨e0, e1⟩ := IntOp.andi_eq_one.1 e
  have f0 := fun i e => real_of_mag (Host.reduce_andi_all _ _ _ _ _ e0 (ix2 i e))
  have f1 := fun e => real_of_mag (Host.reduce_andi_all _ _ _ _ _ e1 (ix1 e))
  have f5 := fun k => real_of_mag (Host.reduce_andi_all _ _ _ _ _ e5 (ix1 k))
  choose x hx using f0
  choose c hc using f1
  choose s hs using f5
  refine ⟨⟨x, fun i => funext (hx i)⟩, ⟨c, funext hc⟩, fun k => ?_, ⟨s, hs⟩, fun k => ?_, fun k => ?_⟩
  · have g := lt_of_below (x := lit 0x00000000#32) (y := val_main_call1_v1 (F := Ideal) x3 (ix1 k))
      (Host.reduce_andi_all _ _ _ _ _ ed (ix1 k))
    have t : val_main_call1_v1 (F := Ideal) x3 (ix1 k) = ∑ i, rowOf x3 k i * rowOf x3 k i := by
      rw [val_main_call1_v1_apply]
      refine (congrArg₂ (· + ·) Ideal.ofBits_zero_f32 (Finset.sum_congr rfl fun e _ => ?_)).trans (zero_add _)
      rw [val_main_call1_v0_apply, show idx_main_call1_v1 (ix1 k) e = ix2 k e from eq_ix2 _]
      rfl
    rw [t, lit_zero] at g
    exact g
  · have g := lt_of_below (x := lit 0xFF800000#32) (y := x7 (ix1 k)) (Host.reduce_andi_all _ _ _ _ _ e7 (ix1 k))
    rw [lit_bot] at g
    exact g.ne'
  · have g := lt_of_below (x := x8 (ix1 k)) (y := lit 0x7F800000#32) (Host.reduce_andi_all _ _ _ _ _ e8 (ix1 k))
    rw [lit_top] at g
    exact g.ne

end Cert.Mix
-- ==== Proof.Segments.lean ====
/-
  A scatter that adds rows into segments, read at an entry: the entry plus the sum over the rows whose segment id is
  the entry's row. An id that is negative or past the last segment adds nothing.
-/
module

public import Idealize.ShloMosaic.Lib.Routing.OpsPair
public import Idealize.ShloMosaic.Lib.StableHlo.Predicate
public import Idealize.ShloMosaic.Lib.WordCmp
public import Idealize.ShloMosaic.Lib.ValueIdx
public import Idealize.ShloMosaic.PureOps.Ideal.Laws

@[expose] public section

noncomputable section

namespace Cert.Mix

open Idealize.ShloMosaic Idealize.ShloMosaic.ValueIdx

variable {S N K : ℕ}

/-- Update `(i, k)` of a scatter of rows lands at `(b, j)` exactly when row `i`'s id, read signed, is `b` and `k = j`. -/
theorem row_lands (d : ScatterDims ⟨2, ![S, K]⟩ ⟨2, ![N, 1]⟩ ⟨2, ![N, K]⟩) (huw : d.updateWindowDims = [1])
    (hiw : d.insertedWindowDims = [0]) (hsd : d.scatterDimsToOperandDims = [0]) (hivd : d.indexVectorDim = 1)
    (idx : IVec ⟨2, ![N, 1]⟩ 32) (i : Fin N) (k : Fin K) (b : Fin S) (j : Fin K) :
    d.resultIdx? (ix2 i k) idx = some (ix2 b j) ↔ (idx (ix2 i (0 : Fin 1))).toInt = (b.val : Int) ∧ k = j := by
  have hm : (0 : Fin 2) ∈ d.scatterDimsToOperandDims := by rw [hsd]; exact List.mem_singleton.2 rfl
  have hm1 : (1 : Fin 2) ∉ d.scatterDimsToOperandDims := by rw [hsd]; simp
  have hk0 : (0 : Fin 2) ∉ d.sKept := fun h =>
    (of_decide_eq_true (List.mem_filter.1 h).2) (by rw [hiw]; exact List.mem_singleton.2 rfl)
  have hk1 : (1 : Fin 2) ∈ d.sKept := List.mem_filter.2 ⟨List.mem_finRange _, decide_eq_true (by rw [hiw]; simp)⟩
  have hw0 : d.window (ix2 i k) 0 = 0 := by unfold ScatterDims.window; rw [dif_neg hk0]
  have hw1 : d.window (ix2 i k) 1 = k.val := by
    unfold ScatterDims.window
    rw [dif_pos hk1]
    have e : ∀ X : Fin 2, X ∈ d.updateWindowDims → (ix2 i k X).val = k.val := fun X hX => by
      obtain rfl : X = 1 := by rw [huw] at hX; exact List.mem_singleton.1 hX
      rfl
    exact e _ (List.getElem_mem _)
  have hs1 : d.start (ix2 i k) idx 1 = 0 := by unfold ScatterDims.start; rw [dif_neg hm1]
  have hs0 : d.start (ix2 i k) idx 0 = (idx (ix2 i (0 : Fin 1))).toInt := by
    unfold ScatterDims.start
    rw [dif_pos hm]
    refine congrArg (fun q => (idx q).toInt) (funext fun a => Fin.ext ?_)
    match a with
    | ⟨0, _⟩ =>
      unfold ScatterDims.siIdx
      rw [dif_neg (by rw [hivd]; exact Nat.zero_ne_one)]
      unfold ScatterDims.siCoord
      simp only [Fin.val_cast]
      have e : ∀ X : Fin 2, X ∈ d.uScatter → (ix2 i k X).val = i.val := fun X hX => by
        have h1 : X ∉ d.updateWindowDims := of_decide_eq_true (List.mem_filter.1 hX).2
        rw [huw] at h1
        match X, h1 with
        | ⟨0, _⟩, _ => rfl
        | ⟨1, _⟩, h1 => exact absurd (List.mem_singleton.2 rfl) h1
      exact e _ (List.getElem_mem _)
    | ⟨1, _⟩ =>
      unfold ScatterDims.siIdx
      rw [dif_pos (by rw [hivd])]
      show List.idxOf (0 : Fin 2) d.scatterDimsToOperandDims = 0
      rw [hsd]; simp
  rw [Routing.resultIdx?_ix2, hs0, hw0, hs1, hw1, Fin.ext_iff]
  constructor <;> rintro ⟨h, h'⟩ <;> exact ⟨by omega, by omega⟩

/-- A word, read signed, is a small number exactly when it is that number's word. -/
theorem toInt_eq_small (w : BitVec 32) (b : ℕ) (hb : b < 2 ^ 31) : w.toInt = (b : Int) ↔ BitVec.ofNat 32 b = w := by
  rw [← StableHlo.Predicate.toInt_ofNat_small b hb]
  exact ⟨fun h => (BitVec.eq_of_toInt_eq h).symm, fun h => by rw [h]⟩

/-- A scatter that adds rows into segments, at entry `(b, j)`: the entry, and the rows of segment `b` in column `j`. -/
theorem segments_apply (d : ScatterDims ⟨2, ![S, K]⟩ ⟨2, ![N, 1]⟩ ⟨2, ![N, K]⟩) (huw : d.updateWindowDims = [1])
    (hiw : d.insertedWindowDims = [0]) (hsd : d.scatterDimsToOperandDims = [0]) (hivd : d.indexVectorDim = 1)
    (hS : S ≤ 2 ^ 31) (x : FVec Ideal ⟨2, ![S, K]⟩ .f32) (idx : IVec ⟨2, ![N, 1]⟩ 32)
    (upd : FVec Ideal ⟨2, ![N, K]⟩ .f32) (b : Fin S) (j : Fin K) :
    Host.scatterAdd d x idx upd (ix2 b j)
      = x (ix2 b j) + ∑ i : Fin N, if BitVec.ofNat 32 b.val = idx (ix2 i (0 : Fin 1)) then upd (ix2 i j) else 0 := by
  show x (ix2 b j) + ∑ q ∈ Finset.univ.filter (fun q => d.resultIdx? q idx = some (ix2 b j)), upd q = _
  refine congrArg (x (ix2 b j) + ·) ?_
  have hl : ∀ q : (⟨2, ![N, K]⟩ : Shape).Idx, d.resultIdx? q idx = some (ix2 b j)
      ↔ BitVec.ofNat 32 b.val = idx (ix2 (q 0 : Fin N) (0 : Fin 1)) ∧ (q 1 : Fin K) = j := fun q => by
    rw [← toInt_eq_small _ _ (Nat.lt_of_lt_of_le b.isLt hS)]
    exact (iff_of_eq (congrArg (fun t => d.resultIdx? t idx = some (ix2 b j)) (eq_ix2 q))).trans
      (row_lands d huw hiw hsd hivd idx (q 0) (q 1) b j)
  rw [← Finset.sum_filter]
  refine Finset.sum_bij' (fun q _ => (q 0 : Fin N)) (fun i _ => ix2 i j) ?_ ?_ ?_ ?_ ?_
  · intro q hq
    exact Finset.mem_filter.2 ⟨Finset.mem_univ _, ((hl q).1 (Finset.mem_filter.1 hq).2).1⟩
  · intro i hi
    exact Finset.mem_filter.2 ⟨Finset.mem_univ _, (hl (ix2 i j)).2 ⟨(Finset.mem_filter.1 hi).2, rfl⟩⟩
  · intro q hq
    have e : (q 1 : Fin K) = j := ((hl q).1 (Finset.mem_filter.1 hq).2).2
    show ix2 (q 0 : Fin N) j = q
    rw [← e]; exact (eq_ix2 q).symm
  · intro i hi; rfl
  · intro q hq
    have e : (q 1 : Fin K) = j := ((hl q).1 (Finset.mem_filter.1 hq).2).2
    show upd q = upd (ix2 (q 0 : Fin N) j)
    rw [← e]; exact congrArg upd (eq_ix2 q)

end Cert.Mix
-- ==== Proof.RefTotals.lean ====
/-
  The reference program's two results, read at an index: a segment's sums of log likelihoods with the weights' log
  softmax added, and the log of a segment's summed exponentials less its sum as no artifact.
-/
module

public import proofs.«01_k».proof.Proof.RefRows
public import proofs.«01_k».proof.Proof.Segments
public import proofs.«01_k».proof.Proof.RowLaws
public import Idealize.ShloMosaic.Lib.ValueIdxRank1

@[expose] public section

noncomputable section

namespace Cert.Mix.Ref

open Cert.ReferenceIdeal Cert.ReferenceIdeal.Gen Cert.ReferenceIdeal.Read Idealize.ShloMosaic Idealize.ShloMosaic.ValueIdx

variable (x0 : (⟨S32768x64, .f32⟩ : BufTy).Contents (Elt Ideal)) (x1 : (⟨S64, .f32⟩ : BufTy).Contents (Elt Ideal))
  (x2 : (⟨S_, .f32⟩ : BufTy).Contents (Elt Ideal)) (x3 : (⟨S4x64, .f32⟩ : BufTy).Contents (Elt Ideal))
  (x4 x5 x6 x7 x8 : (⟨S4, .f32⟩ : BufTy).Contents (Elt Ideal)) (x9 : (⟨S32768, .i32⟩ : BufTy).Contents (Elt Ideal))

/-- A segment's sum of its reads' log likelihoods as no artifact. -/
def cleanSum (b : Fin 16) : EReal :=
  ∑ i : Fin 32768, if BitVec.ofNat 32 b.val = x9 (ix1 i) then cleanPlain (rowOf x0 i) (vecOf x1) (x2 ix0) else 0

/-- A segment's sum of its reads' log likelihoods as artifacts of one cluster. -/
def artSum (b : Fin 16) (k : Fin 4) : EReal :=
  ∑ i : Fin 32768, if BitVec.ofNat 32 b.val = x9 (ix1 i) then
    artPlain erfcPlain (rowOf x0 i) (vecOf x1) (rowOf x3 k) (vecOf x4 k) (vecOf x5 k) (vecOf x6 k) (vecOf x7 k) else 0

/-! ## The scatters -/

theorem cleanSum_apply (b : Fin 16) :
    val_main_v169 (F := Ideal) x0 x1 x2 x9 (ix2 b 0) = cleanSum x0 x1 x2 x9 b := by
  unfold val_main_v169
  refine (segments_apply scatter_S16x1_S32768x1_S32768x1_1_0_0_1 rfl rfl rfl rfl (by norm_num) _ _ _ b 0).trans ?_
  refine (congrArg₂ (· + ·) ?_ (Finset.sum_congr rfl fun i _ => ?_)).trans (zero_add _)
  · rw [val_main_v167_apply, val_main_cst_39_apply]; exact Ideal.ofBits_zero_f32
  · rw [val_main_v168_apply, val_main_v165_apply, show idx_main_v168 (ix2 i 0) = ix1 i from eq_ix1 _,
      show idx_main_v165 (ix2 i 0) = ix1 i from eq_ix1 _, clean_apply]

theorem artSum_apply (b : Fin 16) (k : Fin 4) :
    val_main_v172 (F := Ideal) x0 x1 x3 x4 x5 x6 x7 x9 (ix2 b k) = artSum x0 x1 x3 x4 x5 x6 x7 x9 b k := by
  unfold val_main_v172
  refine (segments_apply scatter_S16x4_S32768x1_S32768x4_1_0_0_1 rfl rfl rfl rfl (by norm_num) _ _ _ b k).trans ?_
  refine (congrArg₂ (· + ·) ?_ (Finset.sum_congr rfl fun i _ => ?_)).trans (zero_add _)
  · rw [val_main_v170_apply, val_main_cst_40_apply]; exact Ideal.ofBits_zero_f32
  · rw [val_main_v171_apply, show idx_main_v171 (ix2 i 0) = ix1 i from eq_ix1 _, art_apply]

/-! ## The weights' log softmax -/

/-- The largest weight, as the reference folds it. -/
theorem weightTop_apply (p : S_.Idx) : val_main_call6_v0 (F := Ideal) x8 p = top4 (vecOf x8) := by
  unfold val_main_call6_v0
  rw [Host.reduce_eq_fold, Finset.filter_true_of_mem fun _ _ => funext fun a => a.elim0,
    ← Finset.map_univ_equiv (idxEquiv1 (n := 4)).symm, Finset.fold_map]
  rfl

/-- The largest weight once more against minus infinity. -/
theorem weightMax_apply (p : S_.Idx) : val_main_call6_v1 (F := Ideal) x8 p = top4 (vecOf x8) := by
  rw [val_main_call6_v1_apply, weightTop_apply, val_main_call6_cst_0_apply]
  show max (lit 0xFF800000#32) (top4 (vecOf x8)) = _
  rw [lit_bot]
  exact max_eq_right bot_le

/-- A weight less the largest. -/
theorem weightShift_apply (k : Fin 4) :
    val_main_call6_v4 (F := Ideal) x8 (ix1 k) = vecOf x8 k - top4 (vecOf x8) := by
  rw [val_main_call6_v4_apply, val_main_call6_v3_apply, val_main_call6_v2_apply, weightMax_apply]
  rfl

/-- The reference's log softmax of the weights. -/
theorem soft_apply (k : Fin 4) : val_main_v173 (F := Ideal) x8 (ix1 k) = softPlain (vecOf x8) k := by
  rw [val_main_v173_apply, val_main_call6_v9_apply, val_main_call6_v8_apply, val_main_call6_v7_apply,
    val_main_call6_v6_apply, weightShift_apply, val_main_call6_cst_1_apply]
  refine congrArg (fun t => vecOf x8 k - top4 (vecOf x8) - Ideal.log t)
    ((congrArg₂ (· + ·) Ideal.ofBits_zero_f32 ?_).trans (zero_add _))
  rw [← Equiv.sum_comp (idxEquiv1 (n := 4)).symm]
  exact Finset.sum_congr rfl fun j _ => (val_main_call6_v5_apply x8 _).trans (congrArg Ideal.exp (weightShift_apply x8 j))

/-! ## The second result -/

/-- The second result's first column. -/
theorem second_zero (b : Fin 16) :
    val_main_v177 (F := Ideal) x0 x1 x2 x3 x4 x5 x6 x7 x8 x9 (ix2 b 0) = cleanSum x0 x1 x2 x9 b := by
  unfold val_main_v177
  refine (concatenate_pair_apply_left (t := S16x5) (s₁ := S16x1) (s₂ := S16x4) 1 _ _ _ _ rfl (ix2 b 0) ?_).trans
    (cleanSum_apply x0 x1 x2 x9 b)
  intro a
  match a with
  | ⟨0, _⟩ => rfl
  | ⟨1, _⟩ => rfl

/-- The second result's artifact columns. -/
theorem second_succ (b : Fin 16) (k : Fin 4) :
    val_main_v177 (F := Ideal) x0 x1 x2 x3 x4 x5 x6 x7 x8 x9 (ix2 b k.succ)
      = artSum x0 x1 x3 x4 x5 x6 x7 x9 b k + softPlain (vecOf x8) k := by
  unfold val_main_v177
  refine (concatenate_pair_apply_right (t := S16x5) (s₁ := S16x1) (s₂ := S16x4) 1 _ _ _ _ rfl rfl (ix2 b k) ?_ ?_).trans ?_
  · intro a ha
    match a with
    | ⟨0, _⟩ => rfl
    | ⟨1, _⟩ => exact absurd rfl ha
  · show k.val + 1 = k.val + 1
    rfl
  · rw [val_main_v176_apply, val_main_v175_apply, val_main_v174_apply, artSum_apply,
      show idx_main_v174 (idx_main_v175 (ix2 b k)) = ix1 k from eq_ix1 _, soft_apply]
    rfl

/-! ## The first result -/

/-- A segment's artifact columns of the second result. -/
def columns (b : Fin 16) : Fin 4 → EReal := fun k => artSum x0 x1 x3 x4 x5 x6 x7 x9 b k + softPlain (vecOf x8) k

theorem columns_apply (b : Fin 16) (k : Fin 4) :
    val_main_v178 (F := Ideal) x0 x1 x2 x3 x4 x5 x6 x7 x8 x9 (ix2 b k) = columns x0 x1 x3 x4 x5 x6 x7 x8 x9 b k := by
  rw [val_main_v178_apply, show idx_main_v178 (ix2 b k) = ix2 b k.succ from
    (eq_ix2 _).trans (congrArg (ix2 b) (Fin.ext (Nat.add_comm 1 k.val))), second_succ]
  rfl

theorem columnsTop_apply (b : Fin 16) :
    val_main_v179 (F := Ideal) x0 x1 x2 x3 x4 x5 x6 x7 x8 x9 (ix1 b) = top4 (columns x0 x1 x3 x4 x5 x6 x7 x8 x9 b) := by
  unfold val_main_v179
  have h : S16x4.Reduces [1] S16 := by decide
  rw [Host.reduce_eq_fold_single FloatOps.maximumf _ _ reducesTo_S16x4_S16_d1 h h_S_]
  exact congrArg (Finset.fold max _ · _) (funext fun k => (congrArg _ (lift_row h b k)).trans
    (columns_apply x0 x1 x2 x3 x4 x5 x6 x7 x8 x9 b k))

/-- The shift of a segment's log of summed exponentials. -/
theorem shift_apply (b : Fin 16) :
    val_main_v184 (F := Ideal) x0 x1 x2 x3 x4 x5 x6 x7 x8 x9 (ix2 b 0) = shift4 (columns x0 x1 x3 x4 x5 x6 x7 x8 x9 b) := by
  rw [val_main_v184_apply, val_main_v183_apply, val_main_v182_apply, val_main_v181_apply, val_main_v180_apply,
    val_main_cst_42_apply, val_main_call7_v1_apply, val_main_call7_v0_apply, val_main_c_apply,
    show idx_main_v180 (ix2 b 0) = ix1 b from eq_ix1 _, columnsTop_apply]
  unfold shift4
  refine congrArg (Scalar.select _ _) ?_
  show (((0#32 : BitVec 32).toInt : ℝ) : EReal) = 0
  simp

/-- A segment's log of summed exponentials. -/
theorem lse_apply (b : Fin 16) :
    val_main_v191 (F := Ideal) x0 x1 x2 x3 x4 x5 x6 x7 x8 x9 (ix2 b 0) = lsePlain (columns x0 x1 x3 x4 x5 x6 x7 x8 x9 b) := by
  have hs : val_main_v188 (F := Ideal) x0 x1 x2 x3 x4 x5 x6 x7 x8 x9 (ix1 b)
      = ∑ k, Ideal.exp (columns x0 x1 x3 x4 x5 x6 x7 x8 x9 b k - shift4 (columns x0 x1 x3 x4 x5 x6 x7 x8 x9 b)) := by
    rw [val_main_v188_apply, val_main_cst_43_apply]
    refine (congrArg₂ (· + ·) Ideal.ofBits_zero_f32 (Finset.sum_congr rfl fun k _ => ?_)).trans (zero_add _)
    rw [show idx_main_v188 (ix1 b) k = ix2 b k from eq_ix2 _, val_main_v187_apply, val_main_v186_apply,
      val_main_v185_apply, show idx_main_v185 (ix2 b k) = ix2 b 0 from eq_ix2 _, shift_apply, columns_apply]
    generalize shift4 (columns x0 x1 x3 x4 x5 x6 x7 x8 x9 b) = s
    generalize columns x0 x1 x3 x4 x5 x6 x7 x8 x9 b k = a
    rfl
  rw [val_main_v191_apply, shift_apply, val_main_v190_apply, val_main_v189_apply,
    show idx_main_v189 (ix2 b 0) = ix1 b from eq_ix1 _, hs]
  unfold lsePlain
  generalize columns x0 x1 x3 x4 x5 x6 x7 x8 x9 b = a
  rfl

/-- The first result. -/
theorem first_apply (b : Fin 16) :
    val_main_v196 (F := Ideal) x0 x1 x2 x3 x4 x5 x6 x7 x8 x9 (ix2 b 0)
      = lsePlain (columns x0 x1 x3 x4 x5 x6 x7 x8 x9 b) - cleanSum x0 x1 x2 x9 b := by
  have h : ∀ q : S16x1.Idx, (q 0).val = b.val → q = ix2 b 0 := fun q hq =>
    (eq_ix2 q).trans (congrArg₂ ix2 (Fin.ext hq) (Subsingleton.elim (α := Fin 1) _ _))
  rw [val_main_v196_apply, val_main_v195_apply, val_main_v194_apply, val_main_v193_apply, val_main_v192_apply,
    h (idx_main_v192 _) (Nat.div_one _), h (idx_main_v194 _) (Nat.div_one _),
    show idx_main_v193 (ix2 b 0) = ix2 b 0 from eq_ix2 _, lse_apply, second_zero]
  rfl

end Cert.Mix.Ref
-- ==== Proof.Block.lean ====
/-
  One block of 1024 reads, as the kernel's stored values have it, read at an index: every payload is the scalar quantity
  of `Spec.lean` at the read's row, and the value the kernel stores into its accumulator is the accumulator's old entry
  plus the sum, over the block's reads whose segment is the entry's, of the read's log likelihoods.
-/
module

public import proofs.«01_k».proof.Proof.Gen.KernelIdeal.Skeleton
public import proofs.«01_k».proof.Proof.Spec
public import proofs.«01_k».proof.Proof.Layout

@[expose] public section

noncomputable section

namespace Cert.Mix

open Idealize.ShloMosaic Idealize.ShloMosaic.ValueIdx
open Cert.KernelIdeal Cert.KernelIdeal.Gen

variable (x : Vec Ideal S1024x64 .f32) (c : Vec Ideal S1x64 .f32) (d : Vec Ideal S4x64 .f32) (ls : Vec Ideal S1x1 .f32)
  (mu lsig llam las : Vec Ideal S4x1 .f32) (seg : Vec Ideal S1x1x1024 .i32) (acc : Vec Ideal S16x5 .f32)

/-- The centroid row the kernel loads. -/
theorem pay6_eq : k0_pay6 c = c := by
  unfold k0_pay6
  exact shapeCast_self _ _

/-- The directions, scaled. -/
theorem pay7_apply (k : Fin 4) (e : Fin 64) : k0_pay7 d (ix2 k e) = unitKernel (rowOf d k) e := by
  unfold k0_pay7 unitKernel
  dsimp only
  rw [mulf_apply, col_apply]
  show _ * Ideal.rsqrt (shapeCast S4x1 _ _ (ix2 k 0)) = _
  rw [asCol_apply, rowSum_apply]
  rfl

/-- The product's first four rows: the reads along the scaled directions. -/
theorem pay8_dir (k : Fin 4) (r : Fin 1024) :
    k0_pay8 x c d (ix2 k.castSucc r) = ∑ e, unitKernel (rowOf d k) e * rowOf x r e := by
  unfold k0_pay8
  refine (product_apply _ _ _ _ _).trans (Finset.sum_congr rfl fun e _ => congrArg (· * _) ?_)
  refine (concatenate_pair_apply_left (t := S5x64) (s₁ := S4x64) (s₂ := S1x64) 0 _ _ _ _ rfl (ix2 k e) ?_).trans (pay7_apply d k e)
  intro b
  match b with
  | ⟨0, _⟩ => rfl
  | ⟨1, _⟩ => rfl

/-- The product's last row: the reads against the centroid. -/
theorem pay8_cent (r : Fin 1024) : k0_pay8 x c d (ix2 4 r) = ∑ e, rowOf c 0 e * rowOf x r e := by
  unfold k0_pay8
  refine (product_apply _ _ _ _ _).trans (Finset.sum_congr rfl fun e _ => congrArg (· * _) ?_)
  rw [pay6_eq]
  refine concatenate_pair_apply_right (t := S5x64) (s₁ := S4x64) (s₂ := S1x64) 0 _ _ _ _ rfl rfl (ix2 0 e) ?_ rfl
  intro b hb
  match b with
  | ⟨0, _⟩ => exact absurd rfl hb
  | ⟨1, _⟩ => rfl

/-- The squared distances to the centroid. -/
theorem pay9_apply (r : Fin 1024) : k0_pay9 x c d (ix2 0 r) = distKernel (rowOf x r) (rowOf c 0) := by
  unfold k0_pay9 distKernel
  dsimp only
  rw [pay6_eq, addf_apply, subf_apply, mulf_apply, broadcast_apply, col_apply, asCol_apply, rowSum_apply]
  congr 1
  congr 1
  · refine (product_apply _ _ _ _ _).trans (Finset.sum_congr rfl fun e _ => ?_)
    rfl
  · refine congrArg (_ * ·) ?_
    refine (extractStridedSlice_apply (t := S1x1024) _ _ _ _ (ix2 4 r) ?_).trans (pay8_cent x c d r)
    intro a
    match a with
    | ⟨0, _⟩ => rfl
    | ⟨1, _⟩ => show r.val = 0 + r.val; omega

/-- The coordinates along the directions. -/
theorem pay10_apply (k : Fin 4) (r : Fin 1024) :
    k0_pay10 x c d (ix2 k r) = dotKernel (rowOf x r) (rowOf c 0) (rowOf d k) := by
  unfold k0_pay10 dotKernel
  dsimp only
  rw [pay6_eq, subf_apply, col_apply, asCol_apply, rowSum_apply]
  congr 1
  · refine (extractStridedSlice_apply (t := S4x1024) _ _ _ _ (ix2 k.castSucc r) ?_).trans (pay8_dir x c d k r)
    intro a
    match a with
    | ⟨0, _⟩ => show k.val = 0 + k.val; omega
    | ⟨1, _⟩ => show r.val = 0 + r.val; omega
  · refine Finset.sum_congr rfl fun e _ => ?_
    rw [mulf_apply, pay7_apply, row_apply]

/-- The log likelihoods as no artifact. -/
theorem pay11_apply (r : Fin 1024) :
    k0_pay11 x c d ls (ix2 0 r) = cleanKernel (rowOf x r) (rowOf c 0) (ls (ix2 0 0)) := by
  unfold k0_pay11 cleanKernel gaussKernel
  rw [subf_apply, mulf_apply, broadcast_apply, broadcast_apply, pay9_apply]
  have h : extractAt ![0, 0] ls inpos_S1x1_p0_0 = ls (ix2 0 0) := congrArg ls (eq_ix2 _)
  rw [h]
  rfl

/-- The Gaussian part of the log likelihoods as an artifact. -/
theorem pay12_apply (v27 : FVec Ideal S1x1024 .f32) (v30 : FVec Ideal S4x1024 .f32) (k : Fin 4) (r : Fin 1024) :
    k0_pay12 v27 v30 las (ix2 k r)
      = gaussKernel (lit 0xC27C0000#32) (v27 (ix2 0 r) - v30 (ix2 k r) * v30 (ix2 k r)) (colOf las k) := by
  unfold k0_pay12 gaussKernel
  rw [subf_apply, mulf_apply, subf_apply, mulf_apply, col_apply, col_apply, row_apply, shapeCast_self]
  rfl

/-- The points at which the complementary error function is taken. -/
theorem pay18_apply (v30 : FVec Ideal S4x1024 .f32) (k : Fin 4) (r : Fin 1024) :
    k0_pay18 v30 lsig llam mu (ix2 k r)
      = skewAt (Ideal.exp (lit 0x40000000#32 * colOf lsig k)) (v30 (ix2 k r)) (colOf mu k) (Ideal.exp (colOf llam k)) := by
  unfold k0_pay18 k0_pay17 k0_pay16 k0_pay15 k0_pay14 k0_pay13 skewAt
  dsimp only
  rw [divf_apply, subf_apply, col_apply, col_apply, shapeCast_self, shapeCast_self, shapeCast_self]
  rfl

/-- The logarithm of the complementary error function, with the log rate less log two before it. -/
theorem pay27_apply (v30 : FVec Ideal S4x1024 .f32) (k : Fin 4) (r : Fin 1024) :
    k0_pay27 (k0_pay18 v30 lsig llam mu) (k0_pay19 llam) (k0_pay20 v30 lsig llam mu) (k0_pay21 v30 lsig llam mu)
        (k0_pay22 v30 lsig llam mu) (k0_pay23 (k0_pay22 v30 lsig llam mu)) (k0_pay24 (k0_pay20 v30 lsig llam mu))
        (k0_pay25 (k0_pay22 v30 lsig llam mu)) (k0_pay26 (k0_pay22 v30 lsig llam mu)) (ix2 k r)
      = colOf llam k - lit 0x3F317218#32 + Ideal.log (erfcKernel
          (skewAt (Ideal.exp (lit 0x40000000#32 * colOf lsig k)) (v30 (ix2 k r)) (colOf mu k) (Ideal.exp (colOf llam k)))) := by
  rw [← pay18_apply mu lsig llam v30 k r]
  generalize hz : k0_pay18 v30 lsig llam mu = z
  unfold k0_pay27 k0_pay26 k0_pay25 k0_pay24 k0_pay22 k0_pay23 k0_pay21 k0_pay20 k0_pay19 k0_pay13
  rw [hz, shapeCast_self]
  dsimp only
  rw [addf_apply, col_apply]
  rfl

/-- The log likelihoods as an artifact, the four clusters below one another. -/
theorem art_apply (k : Fin 4) (r : Fin 1024) (v27 : FVec Ideal S1x1024 .f32) (v30 : FVec Ideal S4x1024 .f32)
    (h27 : v27 (ix2 0 r) = distKernel (rowOf x r) (rowOf c 0))
    (h30 : v30 (ix2 k r) = dotKernel (rowOf x r) (rowOf c 0) (rowOf d k)) (v171 : FVec Ideal S4x1024 .f32)
    (h171 : v171 (ix2 k r) = colOf llam k - lit 0x3F317218#32 + Ideal.log (erfcKernel
          (skewAt (Ideal.exp (lit 0x40000000#32 * colOf lsig k)) (v30 (ix2 k r)) (colOf mu k) (Ideal.exp (colOf llam k))))) :
    addf (k0_pay12 v27 v30 las) (addf v171 (mulf (broadcastTo S4x1024 (k0_pay28 (k0_pay16 llam)) broadcasts_S4x1_S4x1024)
        (subf (broadcastTo S4x1024 (k0_pay29 (k0_pay14 mu) (k0_pay17 lsig llam mu)) broadcasts_S4x1_S4x1024)
          (mulf (broadcast S4x1024 (Scalar.ofBits .f32 0x40000000#32)) v30)))) (ix2 k r)
      = artKernel erfcKernel (rowOf x r) (rowOf c 0) (rowOf d k) (colOf mu k) (colOf lsig k) (colOf llam k) (colOf las k) := by
  rw [addf_apply, addf_apply, mulf_apply, subf_apply, mulf_apply, col_apply, col_apply, pay12_apply, h171, h27]
  unfold k0_pay28 k0_pay29 k0_pay17 k0_pay16 k0_pay15 k0_pay14 k0_pay13 artKernel skewKernel
  rw [shapeCast_self, shapeCast_self, shapeCast_self, h30]
  rfl

/-- One read's five log likelihoods: as no artifact, then as an artifact of each cluster. -/
def readKernel (x c : Fin 64 → EReal) (ls : EReal) (d : Fin 4 → Fin 64 → EReal) (mu lsig llam las : Fin 4 → EReal)
    (j : Fin 5) : EReal :=
  Fin.cases (motive := fun _ => EReal) (cleanKernel x c ls)
    (fun k => artKernel erfcKernel x c (d k) (mu k) (lsig k) (llam k) (las k)) j

/-- A segment's indicator. -/
theorem indicator (a b : BitVec 32) :
    (FloatOps.sitofp .f32 ((IntOp.cmpi .eq a b).setWidth 32) : Ideal .f32) = if a = b then (1 : EReal) else 0 := by
  show (((((IntOp.cmpi .eq a b).setWidth 32).toInt : ℤ) : ℝ) : EReal) = _
  by_cases h : a = b
  · simp [IntOp.cmpi, h]
  · have hb : (a == b) = false := by simp [h]
    simp [IntOp.cmpi, h, hb]

/-- The value stored into the accumulator. -/
def stored : FVec Ideal S16x5 .f32 :=
  k0_pay2 (k0_pay10 x c d) (k0_pay11 x c d ls) (k0_pay12 (k0_pay9 x c d) (k0_pay10 x c d) las)
    (k0_pay27 (k0_pay18 (k0_pay10 x c d) lsig llam mu) (k0_pay19 llam) (k0_pay20 (k0_pay10 x c d) lsig llam mu)
      (k0_pay21 (k0_pay10 x c d) lsig llam mu) (k0_pay22 (k0_pay10 x c d) lsig llam mu)
      (k0_pay23 (k0_pay22 (k0_pay10 x c d) lsig llam mu)) (k0_pay24 (k0_pay20 (k0_pay10 x c d) lsig llam mu))
      (k0_pay25 (k0_pay22 (k0_pay10 x c d) lsig llam mu)) (k0_pay26 (k0_pay22 (k0_pay10 x c d) lsig llam mu)))
    (k0_pay28 (k0_pay16 llam)) (k0_pay29 (k0_pay14 mu) (k0_pay17 lsig llam mu)) seg acc

/-- The value stored into the accumulator, at an entry. -/
theorem stored_apply (b : Fin 16) (j : Fin 5) :
    stored x c d ls mu lsig llam las seg acc (ix2 b j)
      = acc (ix2 b j) + ∑ r : Fin 1024, if BitVec.ofNat 32 b.val = seg (ix3 0 0 r) then
          readKernel (rowOf x r) (rowOf c 0) (ls (ix2 0 0)) (rowOf d) (colOf mu) (colOf lsig) (colOf llam) (colOf las) j
        else 0 := by
  unfold stored k0_pay2
  rw [shapeCast_self, addf_apply]
  refine congrArg (_ + ·) ((product_apply _ _ _ _ _).trans (Finset.sum_congr rfl fun r _ => ?_))
  rw [sitofp_apply, extui_apply]
  have hs : cmpi .eq (iota .tc S16x1024 32 [0] iota_S16x1024_d0_w32)
      (broadcastTo S16x1024 (shapeCast S1x1024 seg shapeCasts_S1x1x1024_S1x1024) broadcasts_S1x1024_S16x1024) (ix2 b r)
      = IntOp.cmpi .eq (BitVec.ofNat 32 b.val) (seg (ix3 0 0 r)) := by
    show IntOp.cmpi .eq (iota .tc S16x1024 32 [0] _ (ix2 b r)) (broadcastTo _ _ _ (ix2 b r)) = _
    rw [iota_single_apply, row_apply]
    congr 1
    refine shapeCast_apply _ _ _ (ix3 0 0 r) ?_
    rw [Shape.rowMajor_val_two, Shape.rowMajor_val_three]
    rfl
  rw [hs, indicator]
  have hv : concatenate S5x1024 0 [⟨S1x1024, k0_pay11 x c d ls⟩, ⟨S4x1024,
      addf (k0_pay12 (k0_pay9 x c d) (k0_pay10 x c d) las) (addf
        (k0_pay27 (k0_pay18 (k0_pay10 x c d) lsig llam mu) (k0_pay19 llam) (k0_pay20 (k0_pay10 x c d) lsig llam mu)
          (k0_pay21 (k0_pay10 x c d) lsig llam mu) (k0_pay22 (k0_pay10 x c d) lsig llam mu)
          (k0_pay23 (k0_pay22 (k0_pay10 x c d) lsig llam mu)) (k0_pay24 (k0_pay20 (k0_pay10 x c d) lsig llam mu))
          (k0_pay25 (k0_pay22 (k0_pay10 x c d) lsig llam mu)) (k0_pay26 (k0_pay22 (k0_pay10 x c d) lsig llam mu)))
        (mulf (broadcastTo S4x1024 (k0_pay28 (k0_pay16 llam)) broadcasts_S4x1_S4x1024)
        (subf (broadcastTo S4x1024 (k0_pay29 (k0_pay14 mu) (k0_pay17 lsig llam mu)) broadcasts_S4x1_S4x1024)
          (mulf (broadcast S4x1024 (Scalar.ofBits .f32 0x40000000#32)) (k0_pay10 x c d)))))⟩]
          concatenates_S1x1024_S4x1024_S5x1024_d0 (ix2 j r)
      = readKernel (rowOf x r) (rowOf c 0) (ls (ix2 0 0)) (rowOf d) (colOf mu) (colOf lsig) (colOf llam) (colOf las) j := by
    induction j using Fin.cases with
    | zero =>
      refine (concatenate_pair_apply_left (t := S5x1024) (s₁ := S1x1024) (s₂ := S4x1024) 0 _ _ _ _ rfl (ix2 0 r) ?_).trans
        (pay11_apply x c d ls r)
      intro b
      match b with
      | ⟨0, _⟩ => rfl
      | ⟨1, _⟩ => rfl
    | succ k =>
      refine (concatenate_pair_apply_right (t := S5x1024) (s₁ := S1x1024) (s₂ := S4x1024) 0 _ _ _ _ rfl rfl (ix2 k r) ?_ rfl).trans
        (art_apply x c d mu lsig llam las k r _ _ (pay9_apply x c d r) (pay10_apply x c d k r) _
          (pay27_apply mu lsig llam _ k r))
      intro b hb
      match b with
      | ⟨0, _⟩ => exact absurd rfl hb
      | ⟨1, _⟩ => rfl
  rw [hv]
  split
  · exact one_mul _
  · exact zero_mul _

/-! ## The last point: the two results -/

variable (w : Vec Ideal S1x4 .f32)

/-- The artifact columns of the result: the accumulator's plus the log softmax of the cluster weights. -/
theorem pay3_apply (b : Fin 16) (k : Fin 4) :
    k0_pay3 acc w (ix2 b k) = acc (ix2 b k.succ) + softKernel (rowOf w 0) k := by
  unfold k0_pay3 softKernel top4
  dsimp only
  rw [addf_apply, row_apply, subf_apply, col_apply, shapeCast_self]
  congr 1
  · refine extractStridedSlice_apply (t := S16x4) _ _ _ _ (ix2 b k.succ) ?_
    intro a
    match a with
    | ⟨0, _⟩ => show b.val = 0 + b.val; omega
    | ⟨1, _⟩ => show k.val + 1 = 1 + k.val; omega
  · refine congrArg (_ - ·) ?_
    rw [addf_apply, asCol_apply, rowTop_apply]
    refine congrArg (_ + ·) ?_
    show Ideal.log (shapeCast S1x1 _ _ (ix2 0 0)) = _
    rw [asCol_apply, rowSum_apply]
    refine congrArg Ideal.log (Finset.sum_congr rfl fun j _ => ?_)
    show Ideal.exp (w (ix2 0 j) - broadcastTo S1x4 _ _ (ix2 0 j)) = _
    rw [col_apply, asCol_apply, rowTop_apply]

/-- The first column of the accumulator. -/
theorem first_apply (b : Fin 16) :
    extractStridedSlice S16x1 ![0, 0] acc slices_S16x5_o0_0_S16x1 (ix2 b 0) = acc (ix2 b 0) := by
  refine extractStridedSlice_apply (t := S16x1) _ _ _ _ (ix2 b 0) ?_
  intro a
  match a with
  | ⟨0, _⟩ => show b.val = 0 + b.val; omega
  | ⟨1, _⟩ => rfl

/-- The second result's first column. -/
theorem pay4_zero (b : Fin 16) : k0_pay4 acc w (ix2 b 0) = acc (ix2 b 0) := by
  unfold k0_pay4
  refine (concatenate_pair_apply_left (t := S16x5) (s₁ := S16x1) (s₂ := S16x4) 1 _ _ _ _ rfl (ix2 b 0) ?_).trans (first_apply acc b)
  intro a
  match a with
  | ⟨0, _⟩ => rfl
  | ⟨1, _⟩ => rfl

/-- The second result's artifact columns. -/
theorem pay4_succ (b : Fin 16) (k : Fin 4) :
    k0_pay4 acc w (ix2 b k.succ) = acc (ix2 b k.succ) + softKernel (rowOf w 0) k := by
  unfold k0_pay4
  refine (concatenate_pair_apply_right (t := S16x5) (s₁ := S16x1) (s₂ := S16x4) 1 _ _ _ _ rfl rfl (ix2 b k) ?_ rfl).trans
    (pay3_apply acc w b k)
  intro a ha
  match a with
  | ⟨0, _⟩ => rfl
  | ⟨1, _⟩ => exact absurd rfl ha

/-- The first result: the log of the sum of the artifact columns' exponentials less the first column. -/
theorem pay5_apply (b : Fin 16) :
    k0_pay5 acc w (ix2 b 0)
      = lseKernel (fun k => acc (ix2 b k.succ) + softKernel (rowOf w 0) k) - acc (ix2 b 0) := by
  have hp : (fun k => acc (ix2 b k.succ) + softKernel (rowOf w 0) k) = fun k => k0_pay3 acc w (ix2 b k) :=
    funext fun k => (pay3_apply acc w b k).symm
  rw [hp]
  unfold k0_pay5 lseKernel top4
  dsimp only
  rw [subf_apply, first_apply, addf_apply, asCol_apply, rowTop_apply]
  refine congrArg (· - _) (congrArg (_ + ·) ?_)
  show Ideal.log (shapeCast S16x1 _ _ (ix2 b 0)) = _
  rw [asCol_apply, rowSum_apply]
  refine congrArg Ideal.log (Finset.sum_congr rfl fun j _ => ?_)
  show Ideal.exp (k0_pay3 acc w (ix2 b j) - broadcastTo S16x4 _ _ (ix2 b j)) = _
  rw [col_apply, asCol_apply, rowTop_apply]

end Cert.Mix
-- ==== Proof.Scratch.lean ====
/-
  What the kernel's body leaves in its accumulator and in its two results at a grid point, over the blocks it loads
  there: at the first point the stored value over a zeroed accumulator, later over what the point before left, and at
  the last point the two results over the accumulator just stored.
-/
module

public import proofs.«01_k».proof.Proof.Gen.KernelIdeal.Value
public import proofs.«01_k».proof.Proof.Block

@[expose] public section

noncomputable section

namespace Cert.Mix

open Idealize.ShloMosaic Idealize.ShloMosaic.TcCoe Idealize.ShloMosaic.ValueIdx Idealize.SL.Sem
open Cert.KernelIdeal Cert.KernelIdeal.Gen

theorem zeros2 : (![0, 0] : Fin 2 → Nat) = fun _ => 0 := funext fun a => by fin_cases a <;> rfl
theorem zeros3 : (![0, 0, 0] : Fin 3 → Nat) = fun _ => 0 := funext fun a => by fin_cases a <;> rfl

section Point

variable (c : Dev nD) (i : grid0.Coords)
  (a1 : Memref sig .tc .vmem S1024x64 .f32) (h1 : a1.IsWhole) (a2 : Memref sig .tc .vmem S1x64 .f32) (h2 : a2.IsWhole)
  (a3 : Memref sig .tc .vmem S1x1 .f32) (h3 : a3.IsWhole) (a4 : Memref sig .tc .vmem S4x64 .f32) (h4 : a4.IsWhole)
  (a5 : Memref sig .tc .vmem S4x1 .f32) (h5 : a5.IsWhole) (a6 : Memref sig .tc .vmem S4x1 .f32) (h6 : a6.IsWhole)
  (a7 : Memref sig .tc .vmem S4x1 .f32) (h7 : a7.IsWhole) (a8 : Memref sig .tc .vmem S4x1 .f32) (h8 : a8.IsWhole)
  (a9 : Memref sig .tc .vmem S1x4 .f32) (h9 : a9.IsWhole) (a10 : Memref sig .tc .vmem S1x1x1024 .i32) (h10 : a10.IsWhole)
  (a11 : Memref sig .tc .vmem S16x1 .f32) (h11 : a11.IsWhole) (a12 : Memref sig .tc .vmem S16x5 .f32) (h12 : a12.IsWhole)
  (a13 : Memref sig .tc .vmem S16x5 .f32) (h13 : a13.IsWhole)
  (x : Vec Ideal S1024x64 .f32) (cen : Vec Ideal S1x64 .f32) (ls : Vec Ideal S1x1 .f32) (d : Vec Ideal S4x64 .f32)
  (mu lsig llam las : Vec Ideal S4x1 .f32) (w : Vec Ideal S1x4 .f32) (seg : Vec Ideal S1x1x1024 .i32)
  (acc : Vec Ideal S16x5 .f32)

/-- The first point's accumulator: the stored value over a zeroed accumulator. -/
theorem scratch_first (hc0 : cond0_0 i) (hc1 : ¬cond0_1 i) :
    sout0_A_0 c i a1 h1 a2 h2 a3 h3 a4 h4 a5 h5 a6 h6 a7 h7 a8 h8 a9 h9 a10 h10 a11 h11 a12 h12 a13 h13 hc0 hc1
        x cen ls d mu lsig llam las w seg
      = stored x cen d ls mu lsig llam las seg (k0_pay1 (F := Ideal)) := by
  unfold sout0_A_0
  rw [View.read_writes_eq_canon _ _ _ (scover0_A_0 c i a1 h1 a2 h2 a3 h3 a4 h4 a5 h5 a6 h6 a7 h7 a8 h8 a9 h9 a10 h10
    a11 h11 a12 h12 a13 h13 hc0 hc1 x cen ls d mu lsig llam las w seg)]
  unfold kernelRun0_A
  dsimp only
  sl_unfold_words
  rw [View.canon_cons_unit_zero (S := S16x5) zeros2, View.readCov_unit_zero (S := S16x5) _ zeros2]
  unfold stored
  simp only [View.readAt_eq_ld, h1.read_unread, h2.read_unread, h3.read_unread, h4.read_unread, h5.read_unread,
    h6.read_unread, h7.read_unread, h8.read_unread, h10.read_unread, View.ld_unit_zero (S := S1024x64) zeros2,
    View.ld_unit_zero (S := S1x64) zeros2, View.ld_unit_zero (S := S4x64) zeros2, View.ld_unit_zero (S := S1x1) zeros2,
    View.ld_unit_zero (S := S4x1) zeros2, View.ld_unit_zero (S := S1x1x1024) zeros3]

/-- A middle point's accumulator: the stored value over what the point before left. -/
theorem scratch_mid (hc0 : ¬cond0_0 i) (hc1 : ¬cond0_1 i) :
    sout0_B_0 c i a1 h1 a2 h2 a3 h3 a4 h4 a5 h5 a6 h6 a7 h7 a8 h8 a9 h9 a10 h10 a11 h11 a12 h12 a13 h13 hc0 hc1
        x cen ls d mu lsig llam las w seg acc
      = stored x cen d ls mu lsig llam las seg acc := by
  unfold sout0_B_0
  rw [View.read_writes_eq_canon _ _ _ (scover0_B_0 c i a1 h1 a2 h2 a3 h3 a4 h4 a5 h5 a6 h6 a7 h7 a8 h8 a9 h9 a10 h10
    a11 h11 a12 h12 a13 h13 hc0 hc1 x cen ls d mu lsig llam las w seg acc)]
  unfold kernelRun0_B
  dsimp only
  sl_unfold_words
  rw [View.canon_unit_zero (S := S16x5) zeros2]
  unfold stored
  simp only [View.readAt_eq_ld, h1.read_unread, h2.read_unread, h3.read_unread, h4.read_unread, h5.read_unread,
    h6.read_unread, h7.read_unread, h8.read_unread, h10.read_unread, h13.read_unread,
    View.ld_unit_zero (S := S1024x64) zeros2,
    View.ld_unit_zero (S := S1x64) zeros2, View.ld_unit_zero (S := S4x64) zeros2, View.ld_unit_zero (S := S1x1) zeros2,
    View.ld_unit_zero (S := S4x1) zeros2, View.ld_unit_zero (S := S16x5) zeros2, View.ld_unit_zero (S := S1x1x1024) zeros3]

/-- The last point's second result: the accumulator just stored, normalised. -/
theorem second_last (hc0 : ¬cond0_0 i) (hc1 : cond0_1 i) :
    out0_C_11 c i a1 h1 a2 h2 a3 h3 a4 h4 a5 h5 a6 h6 a7 h7 a8 h8 a9 h9 a10 h10 a11 h11 a12 h12 a13 h13 hc0 hc1
        x cen ls d mu lsig llam las w seg acc
      = k0_pay4 (stored x cen d ls mu lsig llam las seg acc) w := by
  unfold out0_C_11
  rw [View.read_writes_eq_canon _ _ _ (cover0_C_11 c i a1 h1 a2 h2 a3 h3 a4 h4 a5 h5 a6 h6 a7 h7 a8 h8 a9 h9 a10 h10
    a11 h11 a12 h12 a13 h13 hc0 hc1 x cen ls d mu lsig llam las w seg acc)]
  unfold kernelRun0_C
  dsimp only
  sl_unfold_words
  rw [View.canon_unit_zero (S := S16x5) zeros2, View.readCov_unit_zero (S := S16x5) _ zeros2]
  unfold stored
  simp only [View.readAt_eq_ld, h1.read_unread, h2.read_unread, h3.read_unread, h4.read_unread, h5.read_unread,
    h6.read_unread, h7.read_unread, h8.read_unread, h9.read_unread, h10.read_unread, h13.read_unread,
    View.ld_unit_zero (S := S1024x64) zeros2, View.ld_unit_zero (S := S1x4) zeros2,
    View.ld_unit_zero (S := S1x64) zeros2, View.ld_unit_zero (S := S4x64) zeros2, View.ld_unit_zero (S := S1x1) zeros2,
    View.ld_unit_zero (S := S4x1) zeros2, View.ld_unit_zero (S := S16x5) zeros2, View.ld_unit_zero (S := S1x1x1024) zeros3]

/-- The last point's first result: the log likelihood ratio of the accumulator just stored. -/
theorem first_last (hc0 : ¬cond0_0 i) (hc1 : cond0_1 i) :
    out0_C_10 c i a1 h1 a2 h2 a3 h3 a4 h4 a5 h5 a6 h6 a7 h7 a8 h8 a9 h9 a10 h10 a11 h11 a12 h12 a13 h13 hc0 hc1
        x cen ls d mu lsig llam las w seg acc
      = k0_pay5 (stored x cen d ls mu lsig llam las seg acc) w := by
  unfold out0_C_10
  rw [View.read_writes_eq_canon _ _ _ (cover0_C_10 c i a1 h1 a2 h2 a3 h3 a4 h4 a5 h5 a6 h6 a7 h7 a8 h8 a9 h9 a10 h10
    a11 h11 a12 h12 a13 h13 hc0 hc1 x cen ls d mu lsig llam las w seg acc)]
  unfold kernelRun0_C
  dsimp only
  sl_unfold_words
  rw [View.canon_unit_zero (S := S16x1) zeros2, View.readCov_unit_zero (S := S16x5) _ zeros2]
  unfold stored
  simp only [View.readAt_eq_ld, h1.read_unread, h2.read_unread, h3.read_unread, h4.read_unread, h5.read_unread,
    h6.read_unread, h7.read_unread, h8.read_unread, h9.read_unread, h10.read_unread, h13.read_unread,
    View.ld_unit_zero (S := S1024x64) zeros2, View.ld_unit_zero (S := S1x4) zeros2,
    View.ld_unit_zero (S := S1x64) zeros2, View.ld_unit_zero (S := S4x64) zeros2, View.ld_unit_zero (S := S1x1) zeros2,
    View.ld_unit_zero (S := S4x1) zeros2, View.ld_unit_zero (S := S16x5) zeros2, View.ld_unit_zero (S := S1x1x1024) zeros3]

end Point

end Cert.Mix
-- ==== Proof.Windows.lean ====
/-
  The blocks the kernel loads at a grid point, read at an index, as entries of the ten arguments.
-/
module

public import proofs.«01_k».proof.Proof.Gen.KernelIdeal.Value
public import proofs.«01_k».proof.Proof.Layout
public import Idealize.ShloMosaic.Lib.StableHlo.Run

@[expose] public section

noncomputable section

namespace Cert.Mix

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- Read `r` of block `t`. -/
def place (t : Fin 32) (r : Fin 1024) : Fin 32768 := ⟨1024 * t.val + r.val, by omega⟩

/-- A grid point as a block number. -/
abbrev blockNo (t : Fin cfg0.N) : Fin 32 := t.cast N_0

theorem V_v0 : V m c main_v0 = shapeCast S32x1x1024 (m ((c : Thread nD τ).loc main_arg9)) shapeCasts_S32768_S32x1x1024 := by
  show StableHlo.after hostOps0 _ (Proc.devRef .tc main_v0) = _
  after_results
  rfl

theorem V_v1 : V m c main_v1 = shapeCast S1x64 (m ((c : Thread nD τ).loc main_arg1)) shapeCasts_S64_S1x64 := by
  show StableHlo.after hostOps0 _ (Proc.devRef .tc main_v1) = _
  after_results
  rfl

theorem V_v2 : V m c main_v2 = shapeCast S1x1 (m ((c : Thread nD τ).loc main_arg2)) shapeCasts_S_S1x1 := by
  show StableHlo.after hostOps0 _ (Proc.devRef .tc main_v2) = _
  after_results
  rfl

theorem V_v3 : V m c main_v3 = shapeCast S4x1 (m ((c : Thread nD τ).loc main_arg4)) shapeCasts_S4_S4x1 := by
  show StableHlo.after hostOps0 _ (Proc.devRef .tc main_v3) = _
  after_results
  rfl

theorem V_v4 : V m c main_v4 = shapeCast S4x1 (m ((c : Thread nD τ).loc main_arg5)) shapeCasts_S4_S4x1 := by
  show StableHlo.after hostOps0 _ (Proc.devRef .tc main_v4) = _
  after_results
  rfl

theorem V_v5 : V m c main_v5 = shapeCast S4x1 (m ((c : Thread nD τ).loc main_arg6)) shapeCasts_S4_S4x1 := by
  show StableHlo.after hostOps0 _ (Proc.devRef .tc main_v5) = _
  after_results
  rfl

theorem V_v6 : V m c main_v6 = shapeCast S4x1 (m ((c : Thread nD τ).loc main_arg7)) shapeCasts_S4_S4x1 := by
  show StableHlo.after hostOps0 _ (Proc.devRef .tc main_v6) = _
  after_results
  rfl

theorem V_v7 : V m c main_v7 = shapeCast S1x4 (m ((c : Thread nD τ).loc main_arg8)) shapeCasts_S4_S1x4 := by
  show StableHlo.after hostOps0 _ (Proc.devRef .tc main_v7) = _
  after_results
  rfl

/-- The printed index maps: block `t` of the reads and of the segments is the `t`-th, every other window is its array. -/
theorem index0 : ∀ t : Fin cfg0.N, win0_0.index t (0 : Fin 2) = t.val ∧ win0_0.index t (1 : Fin 2) = 0 :=
  (by decide +kernel : ∀ t : Fin grid0.N, _)
theorem index9 : ∀ t : Fin cfg0.N,
    win0_9.index t (0 : Fin 3) = t.val ∧ win0_9.index t (1 : Fin 3) = 0 ∧ win0_9.index t (2 : Fin 3) = 0 :=
  (by decide +kernel : ∀ t : Fin grid0.N, _)

/-- The reads. -/
theorem reads_apply (t : Fin cfg0.N) (r : Fin 1024) (e : Fin 64) :
    (iblk m c 0 t : Vec Ideal S1024x64 .f32) (ix2 r e)
      = m ((c : Thread nD τ).loc main_arg0) (ix2 (place (blockNo t) r) e) := by
  obtain ⟨e0, e1⟩ := index0 t
  refine (show (iblk m c 0 t : Vec Ideal S1024x64 .f32) (ix2 r e)
    = V m c main_arg0 (((cfg0.win 0).blk t).view.emb (ix2 r e)) from rfl).trans ?_
  rw [V_main_arg0]
  refine congrArg _ (funext fun a => Fin.ext ?_)
  match a with
  | ⟨0, _⟩ =>
    show win0_0.index t (0 : Fin 2) * 1024 + 1 * r.val = 1024 * t.val + r.val
    omega
  | ⟨1, _⟩ =>
    show win0_0.index t (1 : Fin 2) * 64 + 1 * e.val = e.val
    omega

/-- The segments. -/
theorem segs_apply (t : Fin cfg0.N) (r : Fin 1024) :
    (iblk m c 9 t : Vec Ideal S1x1x1024 .i32) (ix3 0 0 r)
      = m ((c : Thread nD τ).loc main_arg9) (ix1 (place (blockNo t) r)) := by
  obtain ⟨e0, e1, e2⟩ := index9 t
  refine (show (iblk m c 9 t : Vec Ideal S1x1x1024 .i32) (ix3 0 0 r)
    = V m c main_v0 (((cfg0.win 9).blk t).view.emb (ix3 0 0 r)) from rfl).trans ?_
  rw [V_v0]
  refine shapeCast_apply (s := S32768) _ _ _ _ ?_
  rw [Shape.rowMajor_val_one, Shape.rowMajor_val_three]
  show 1024 * t.val + r.val = ((win0_9.index t (0 : Fin 3) * 1 + 1 * 0) * 1 + (win0_9.index t (1 : Fin 3) * 1 + 1 * 0)) * 1024
    + (win0_9.index t (2 : Fin 3) * 1024 + 1 * r.val)
  omega

/-- The directions. -/
theorem dirs_apply (t : Fin cfg0.N) (k : Fin 4) (e : Fin 64) :
    (iblk m c 3 t : Vec Ideal S4x64 .f32) (ix2 k e) = m ((c : Thread nD τ).loc main_arg3) (ix2 k e) := by
  refine (show (iblk m c 3 t : Vec Ideal S4x64 .f32) (ix2 k e)
    = V m c main_arg3 (((cfg0.win 3).blk t).view.emb (ix2 k e)) from rfl).trans ?_
  rw [V_main_arg3]
  refine congrArg _ (funext fun a => Fin.ext ?_)
  match a with
  | ⟨0, _⟩ =>
    show 0 * 4 + 1 * k.val = k.val
    omega
  | ⟨1, _⟩ =>
    show 0 * 64 + 1 * e.val = e.val
    omega

/-- The centroid. -/
theorem cent_apply (t : Fin cfg0.N) (e : Fin 64) :
    (iblk m c 1 t : Vec Ideal S1x64 .f32) (ix2 0 e) = m ((c : Thread nD τ).loc main_arg1) (ix1 e) := by
  refine (show (iblk m c 1 t : Vec Ideal S1x64 .f32) (ix2 0 e)
    = V m c main_v1 (((cfg0.win 1).blk t).view.emb (ix2 0 e)) from rfl).trans ?_
  rw [V_v1]
  refine shapeCast_apply (s := S64) _ _ _ _ ?_
  rw [Shape.rowMajor_val_one, Shape.rowMajor_val_two]
  show e.val = (0 * 1 + 1 * 0) * 64 + (0 * 64 + 1 * e.val)
  omega

/-- The log scale. -/
theorem scale_apply (t : Fin cfg0.N) :
    (iblk m c 2 t : Vec Ideal S1x1 .f32) (ix2 0 0) = m ((c : Thread nD τ).loc main_arg2) ix0 := by
  refine (show (iblk m c 2 t : Vec Ideal S1x1 .f32) (ix2 0 0)
    = V m c main_v2 (((cfg0.win 2).blk t).view.emb (ix2 0 0)) from rfl).trans ?_
  rw [V_v2]
  unfold shapeCast
  exact congrArg (m ((c : Thread nD τ).loc main_arg2)) (eq_ix0 _)

/-- The cluster weights. -/
theorem weights_apply (t : Fin cfg0.N) (k : Fin 4) :
    (iblk m c 8 t : Vec Ideal S1x4 .f32) (ix2 0 k) = m ((c : Thread nD τ).loc main_arg8) (ix1 k) := by
  refine (show (iblk m c 8 t : Vec Ideal S1x4 .f32) (ix2 0 k)
    = V m c main_v7 (((cfg0.win 8).blk t).view.emb (ix2 0 k)) from rfl).trans ?_
  rw [V_v7]
  refine shapeCast_apply (s := S4) _ _ _ _ ?_
  rw [Shape.rowMajor_val_one, Shape.rowMajor_val_two]
  show k.val = (0 * 1 + 1 * 0) * 4 + (0 * 4 + 1 * k.val)
  omega

/-- A column of four cast from a vector, read through a block that is the whole column. -/
theorem column_apply (x : (⟨1, ![4]⟩ : Shape).Idx → EReal) (h : (⟨1, ![4]⟩ : Shape).ShapeCasts ⟨2, ![4, 1]⟩) (k : Fin 4)
    (i : (⟨2, ![4, 1]⟩ : Shape).Idx) (hi : (i 0).val = 0 * 4 + 1 * k.val) :
    shapeCast ⟨2, ![4, 1]⟩ x h i = x (ix1 k) := by
  refine shapeCast_apply _ _ _ _ ?_
  have h1 : (i 1).val < 1 := (i 1).isLt
  rw [Shape.rowMajor_val_one, Shape.rowMajor_val_two]
  show k.val = (i 0).val * 1 + (i 1).val
  omega

/-- The exponentially modified Gaussians' means. -/
theorem means_apply (t : Fin cfg0.N) (k : Fin 4) :
    (iblk m c 4 t : Vec Ideal S4x1 .f32) (ix2 k 0) = m ((c : Thread nD τ).loc main_arg4) (ix1 k) :=
  (congrFun (V_v3 m c) _).trans (column_apply _ _ k _ rfl)

/-- Their log scales. -/
theorem scales_apply (t : Fin cfg0.N) (k : Fin 4) :
    (iblk m c 5 t : Vec Ideal S4x1 .f32) (ix2 k 0) = m ((c : Thread nD τ).loc main_arg5) (ix1 k) :=
  (congrFun (V_v4 m c) _).trans (column_apply _ _ k _ rfl)

/-- Their log rates. -/
theorem rates_apply (t : Fin cfg0.N) (k : Fin 4) :
    (iblk m c 6 t : Vec Ideal S4x1 .f32) (ix2 k 0) = m ((c : Thread nD τ).loc main_arg6) (ix1 k) :=
  (congrFun (V_v5 m c) _).trans (column_apply _ _ k _ rfl)

/-- The artifact log scales. -/
theorem spreads_apply (t : Fin cfg0.N) (k : Fin 4) :
    (iblk m c 7 t : Vec Ideal S4x1 .f32) (ix2 k 0) = m ((c : Thread nD τ).loc main_arg7) (ix1 k) :=
  (congrFun (V_v6 m c) _).trans (column_apply _ _ k _ rfl)

end Cert.Mix
-- ==== Proof.Total.lean ====
/-
  The kernel's two results as functions of its arguments: the accumulator after the last grid point holds, at segment
  `b`, the sums of the log likelihoods of the reads of segment `b`; the results are those sums with the normalised
  cluster weights added, and the log likelihood ratio.
-/
module

public import proofs.«01_k».proof.Proof.Scratch
public import proofs.«01_k».proof.Proof.Windows

@[expose] public section

noncomputable section

namespace Cert.Mix

open Idealize.ShloMosaic Idealize.ShloMosaic.TcCoe Idealize.ShloMosaic.ValueIdx Idealize.SL.Sem
open Cert.KernelIdeal Cert.KernelIdeal.Gen Cert.KernelIdeal.Value

variable (m : (ℓ : Loc nD τ sig) → Buf (Elt Ideal) ℓ) (c : Dev nD)

/-- Read `i`'s five log likelihoods, of the kernel's arguments. -/
def likelihood (i : Fin 32768) (j : Fin 5) : EReal :=
  readKernel (rowOf (m ((c : Thread nD τ).loc main_arg0)) i) (fun e => m ((c : Thread nD τ).loc main_arg1) (ix1 e))
    (m ((c : Thread nD τ).loc main_arg2) ix0) (rowOf (m ((c : Thread nD τ).loc main_arg3)))
    (fun k => m ((c : Thread nD τ).loc main_arg4) (ix1 k)) (fun k => m ((c : Thread nD τ).loc main_arg5) (ix1 k))
    (fun k => m ((c : Thread nD τ).loc main_arg6) (ix1 k)) (fun k => m ((c : Thread nD τ).loc main_arg7) (ix1 k)) j

/-- Read `i`'s share of entry `(b, j)`: its log likelihood if the read is of segment `b`. -/
def share (b : Fin 16) (j : Fin 5) (i : Fin 32768) : EReal :=
  if BitVec.ofNat 32 b.val = m ((c : Thread nD τ).loc main_arg9) (ix1 i) then likelihood m c i j else 0

/-- Entry `(b, j)` of the segment sums. -/
def total (b : Fin 16) (j : Fin 5) : EReal := ∑ i, share m c b j i

/-- The value stored into the accumulator over blocks whose entries are block `t`'s of the arguments. -/
theorem stored_block (t : Fin 32) (x : Vec Ideal S1024x64 .f32) (cen : Vec Ideal S1x64 .f32) (d : Vec Ideal S4x64 .f32)
    (ls : Vec Ideal S1x1 .f32) (mu lsig llam las : Vec Ideal S4x1 .f32) (seg : Vec Ideal S1x1x1024 .i32)
    (acc : Vec Ideal S16x5 .f32)
    (h0 : ∀ r e, x (ix2 r e) = m ((c : Thread nD τ).loc main_arg0) (ix2 (place t r) e))
    (h1 : ∀ e, cen (ix2 0 e) = m ((c : Thread nD τ).loc main_arg1) (ix1 e))
    (h2 : ls (ix2 0 0) = m ((c : Thread nD τ).loc main_arg2) ix0)
    (h3 : ∀ k e, d (ix2 k e) = m ((c : Thread nD τ).loc main_arg3) (ix2 k e))
    (h4 : ∀ k, mu (ix2 k 0) = m ((c : Thread nD τ).loc main_arg4) (ix1 k))
    (h5 : ∀ k, lsig (ix2 k 0) = m ((c : Thread nD τ).loc main_arg5) (ix1 k))
    (h6 : ∀ k, llam (ix2 k 0) = m ((c : Thread nD τ).loc main_arg6) (ix1 k))
    (h7 : ∀ k, las (ix2 k 0) = m ((c : Thread nD τ).loc main_arg7) (ix1 k))
    (h9 : ∀ r, seg (ix3 0 0 r) = m ((c : Thread nD τ).loc main_arg9) (ix1 (place t r))) (b : Fin 16) (j : Fin 5) :
    stored x cen d ls mu lsig llam las seg acc (ix2 b j) = acc (ix2 b j) + ∑ r, share m c b j (place t r) := by
  rw [stored_apply]
  refine congrArg (_ + ·) (Finset.sum_congr rfl fun r _ => ?_)
  unfold share likelihood
  rw [h9]
  have e0 : rowOf x r = rowOf (m ((c : Thread nD τ).loc main_arg0)) (place t r) := funext (h0 r)
  have e1 : rowOf cen 0 = fun e => m ((c : Thread nD τ).loc main_arg1) (ix1 e) := funext h1
  have e3 : rowOf d = rowOf (m ((c : Thread nD τ).loc main_arg3)) := funext fun k => funext (h3 k)
  have e4 : colOf mu = fun k => m ((c : Thread nD τ).loc main_arg4) (ix1 k) := funext h4
  have e5 : colOf lsig = fun k => m ((c : Thread nD τ).loc main_arg5) (ix1 k) := funext h5
  have e6 : colOf llam = fun k => m ((c : Thread nD τ).loc main_arg6) (ix1 k) := funext h6
  have e7 : colOf las = fun k => m ((c : Thread nD τ).loc main_arg7) (ix1 k) := funext h7
  rw [e0, e1, e3, e4, e5, e6, e7, h2]

/-- The value stored into the accumulator at point `t`. -/
theorem stored_point (t : Fin cfg0.N) (acc : Vec Ideal S16x5 .f32) (b : Fin 16) (j : Fin 5) :
    stored (iblk m c 0 t) (iblk m c 1 t) (iblk m c 3 t) (iblk m c 2 t) (iblk m c 4 t) (iblk m c 5 t) (iblk m c 6 t)
        (iblk m c 7 t) (iblk m c 9 t) acc (ix2 b j)
      = acc (ix2 b j) + ∑ r, share m c b j (place (blockNo t) r) :=
  stored_block m c (blockNo t) _ _ _ _ _ _ _ _ _ acc (reads_apply m c t) (cent_apply m c t) (scale_apply m c t)
    (dirs_apply m c t) (means_apply m c t) (scales_apply m c t) (rates_apply m c t) (spreads_apply m c t)
    (segs_apply m c t) b j

/-- A zeroed accumulator's entry. -/
theorem pay1_apply (i : S16x5.Idx) : k0_pay1 (F := Ideal) i = 0 := by
  unfold k0_pay1
  rw [shapeCast_self]
  exact Ideal.ofBits_zero_f32

/-- The accumulator after point `n`: the sum over the blocks up to `n`. -/
theorem scratch_sum (b : Fin 16) (j : Fin 5) : ∀ (n : ℕ) (hn : n < cfg0.N) (_ : n < 31),
    (outsAt0 m c n hn).2.2 (ix2 b j)
      = ∑ t : Fin (n + 1), ∑ r, share m c b j (place (blockNo ⟨t.val, by have := t.isLt; omega⟩) r)
  | 0, hn, _ => by
    rw [outsAt0_A m c ⟨0, hn⟩ rfl (by show ¬(0 % 32 = 31); omega)]
    dsimp only
    rw [scratch_first, stored_point, pay1_apply, zero_add, Fin.sum_univ_one]
    rfl
  | n + 1, hn, h => by
    rw [outsAt0_B m c ⟨n + 1, hn⟩ (by show ¬((n + 1) % 32 = 0); omega) (by show ¬((n + 1) % 32 = 31); omega)]
    dsimp only
    rw [scratch_mid, stored_point, Fin.sum_univ_castSucc (n := n + 1)]
    exact congrArg (· + ∑ r, share m c b j (place (blockNo ⟨n + 1, hn⟩) r)) (scratch_sum b j n (by omega) (by omega))

/-- The reads, block by block. -/
theorem sum_place (f : Fin 32768 → EReal) : ∑ t : Fin 32, ∑ r : Fin 1024, f (place t r) = ∑ i, f i := by
  rw [← Finset.sum_product', ← (finProdFinEquiv (m := 32) (n := 1024)).sum_comp]
  refine Finset.sum_congr rfl fun p _ => congrArg f (Fin.ext ?_)
  show 1024 * p.1.val + p.2.val = p.2.val + 1024 * p.1.val
  omega

/-- The value stored at the last point: the segment sums. -/
theorem stored_last (b : Fin 16) (j : Fin 5) (h : 31 < cfg0.N) (h' : 30 < cfg0.N) :
    stored (iblk m c 0 ⟨31, h⟩) (iblk m c 1 ⟨31, h⟩) (iblk m c 3 ⟨31, h⟩) (iblk m c 2 ⟨31, h⟩) (iblk m c 4 ⟨31, h⟩)
        (iblk m c 5 ⟨31, h⟩) (iblk m c 6 ⟨31, h⟩) (iblk m c 7 ⟨31, h⟩) (iblk m c 9 ⟨31, h⟩)
        (outsAt0 m c 30 h').2.2 (ix2 b j) = total m c b j := by
  rw [stored_point, scratch_sum m c b j 30 h' (by omega), total, ← sum_place,
    Fin.sum_univ_castSucc (n := 31)]
  rfl

/-- The first result: the log likelihood ratio of each segment. -/
theorem first_result (b : Fin 16) :
    G10 m c (ix2 b 0) = lseKernel (fun k => total m c b k.succ
        + softKernel (fun k => m ((c : Thread nD τ).loc main_arg8) (ix1 k)) k) - total m c b 0 := by
  have h : 31 < cfg0.N := lt_of_lt_of_eq (by decide) N_0.symm
  rw [G10_last, ← outsAt0_sweep m c 31 h, outsAt0_C m c ⟨31, h⟩ (by show ¬(31 % 32 = 0); omega) rfl]
  dsimp only
  have ew : rowOf (iblk m c 8 ⟨31, h⟩ : Vec Ideal S1x4 .f32) 0 = fun k => m ((c : Thread nD τ).loc main_arg8) (ix1 k) :=
    funext fun k => weights_apply m c _ k
  rw [first_last, pay5_apply, ew]
  simp only [stored_last m c b _ h]

/-- The second result's first column: the segment sums of the log likelihoods as no artifact. -/
theorem second_result_zero (b : Fin 16) : G11 m c (ix2 b 0) = total m c b 0 := by
  have h : 31 < cfg0.N := lt_of_lt_of_eq (by decide) N_0.symm
  rw [G11_last, ← outsAt0_sweep m c 31 h, outsAt0_C m c ⟨31, h⟩ (by show ¬(31 % 32 = 0); omega) rfl]
  dsimp only
  rw [second_last, pay4_zero]
  exact stored_last m c b 0 h _

/-- The second result's artifact columns: the segment sums with the normalised cluster weights. -/
theorem second_result_succ (b : Fin 16) (k : Fin 4) :
    G11 m c (ix2 b k.succ) = total m c b k.succ + softKernel (fun k => m ((c : Thread nD τ).loc main_arg8) (ix1 k)) k := by
  have h : 31 < cfg0.N := lt_of_lt_of_eq (by decide) N_0.symm
  rw [G11_last, ← outsAt0_sweep m c 31 h, outsAt0_C m c ⟨31, h⟩ (by show ¬(31 % 32 = 0); omega) rfl]
  dsimp only
  have ew : rowOf (iblk m c 8 ⟨31, h⟩ : Vec Ideal S1x4 .f32) 0 = fun k => m ((c : Thread nD τ).loc main_arg8) (ix1 k) :=
    funext fun k => weights_apply m c _ k
  rw [second_last, pay4_succ, ew]
  exact congrArg (· + _) (stored_last m c b k.succ h _)

end Cert.Mix
-- ==== Proof.TailLaws.lean ====
/-
  The two log likelihoods of one read agree between the spellings, and the last step's log softmax and log of a sum of
  exponentials agree where no entry is `+∞`.
-/
module

public import proofs.«01_k».proof.Proof.GaussLaws

@[expose] public section

noncomputable section

namespace Cert.Mix

open Idealize.ShloMosaic

/-- A read's log likelihood as no artifact: the spellings agree at a finite read and centroid, at every log scale. -/
theorem clean_eq (x c : Fin 64 → ℝ) (ls : EReal) :
    cleanKernel (fun e => (x e : EReal)) (fun e => (c e : EReal)) ls
      = cleanPlain (fun e => (x e : EReal)) (fun e => (c e : EReal)) ls := by
  unfold cleanKernel cleanPlain
  rw [distKernel_coe, lit_neg64, gauss_eq _ _ (by norm_num) (distR_nonneg x c)]
  simp only [← EReal.coe_sub, length64_coe]
  rfl

/-- A read's log likelihood as an artifact of one cluster: the spellings agree at a finite read and centroid, a
    direction of positive sum of squares and a finite log sigma. -/
theorem art_eq (g : EReal → EReal) (x c : Fin 64 → ℝ) (d : Fin 64 → EReal) (hd : 0 < ∑ i, d i * d i) (mu ll las : EReal)
    (ls : ℝ) :
    artKernel g (fun e => (x e : EReal)) (fun e => (c e : EReal)) d mu ls ll las
      = artPlain g (fun e => (x e : EReal)) (fun e => (c e : EReal)) d mu ls ll las := by
  obtain ⟨u, hu⟩ := exists_scaled d hd
  have hp : 0 ≤ distR x c - dotR x c u * dotR x c u := by
    rw [← pythagoras hu x c]; exact Finset.sum_nonneg fun e _ => mul_self_nonneg _
  unfold artKernel artPlain
  rw [distKernel_coe, dotKernel_coe hu, dotPlain_coe hu, ← EReal.coe_mul, ← EReal.coe_sub, lit_neg63,
    gauss_eq _ _ (by norm_num) hp, skew_eq]
  simp only [hu.plain, ← EReal.coe_mul, ← EReal.coe_sub, length64_coe, pythagoras hu x c]

/-- A read's log likelihood as an artifact is never `+∞` above the log scale `-∞`. -/
theorem art_ne_top {g : EReal → EReal} (hg : Tail g) (x c : Fin 64 → ℝ) (d : Fin 64 → EReal) (hd : 0 < ∑ i, d i * d i)
    (mu ll las : EReal) (ls : ℝ) (hl : las ≠ ⊥) :
    artKernel g (fun e => (x e : EReal)) (fun e => (c e : EReal)) d mu ls ll las ≠ ⊤ := by
  obtain ⟨u, hu⟩ := exists_scaled d hd
  have hp : 0 ≤ distR x c - dotR x c u * dotR x c u := by
    rw [← pythagoras hu x c]; exact Finset.sum_nonneg fun e _ => mul_self_nonneg _
  unfold artKernel
  rw [distKernel_coe, dotKernel_coe hu, ← EReal.coe_mul, ← EReal.coe_sub, lit_neg63]
  exact EReal.add_ne_top (gauss_ne_top _ _ (by norm_num) hp _ hl) (skew_ne_top hg _ _ _ _)

/-- A sum of numbers none of which is `+∞` is not `+∞`. -/
theorem sum_ne_top {ι : Type} (s : Finset ι) (f : ι → EReal) (h : ∀ i, f i ≠ ⊤) : ∑ i ∈ s, f i ≠ ⊤ := by
  classical
  induction s using Finset.induction_on with
  | empty => simp
  | insert a s ha ih => rw [Finset.sum_insert ha]; exact EReal.add_ne_top (h a) ih

/-! ## The largest of four -/

theorem top4_ne_top {a : Fin 4 → EReal} (h : ∀ k, a k ≠ ⊤) : top4 a ≠ ⊤ := by
  refine ne_of_lt ?_
  unfold top4
  rw [Finset.fold_max_lt, lit_bot]
  exact ⟨bot_lt_top, fun k _ => lt_top_iff_ne_top.mpr (h k)⟩

theorem eq_bot_of_top4 {a : Fin 4 → EReal} (h : top4 a = ⊥) (k : Fin 4) : a k = ⊥ := by
  have := (Finset.fold_max_le (s := Finset.univ) (b := lit 0xFF800000#32) (f := a) ⊥).mp (le_of_eq h)
  exact le_bot_iff.mp (this.2 k (Finset.mem_univ k))

/-! ## The log softmax and the log of a sum of exponentials -/

/-- The two spellings of the log softmax agree at weights none of which is `+∞`. -/
theorem soft_eq {w : Fin 4 → EReal} (h : ∀ k, w k ≠ ⊤) (k : Fin 4) : softKernel w k = softPlain w k := by
  unfold softKernel softPlain
  generalize Ideal.log _ = y
  by_cases hb : top4 w = ⊥
  · rw [eq_bot_of_top4 hb k, sub_eq_add_neg, sub_eq_add_neg, EReal.bot_add, sub_eq_add_neg, EReal.bot_add, EReal.bot_add]
  · rw [sub_eq_add_neg, EReal.neg_add (Or.inl hb) (Or.inl (top4_ne_top h)), sub_eq_add_neg, sub_eq_add_neg, sub_eq_add_neg,
      add_assoc]

/-- The two spellings of the log of a sum of exponentials agree at numbers none of which is `+∞`. -/
theorem lse_eq {a : Fin 4 → EReal} (h : ∀ k, a k ≠ ⊤) : lseKernel a = lsePlain a := by
  unfold lseKernel lsePlain shift4
  rw [select_below, lit_top]
  by_cases hb : top4 a = ⊥
  · have hm : ¬ mag (top4 a) < ⊤ := by rw [hb]; simp [mag]
    have ha : ∀ k, a k = ⊥ := eq_bot_of_top4 hb
    have hz : Ideal.log 0 = ⊥ := (Ideal.log_coe (r := 0)).trans (if_pos le_rfl)
    rw [if_neg hm, hb]
    simp [ha, hz, sub_eq_add_neg]
  · have hm : mag (top4 a) < ⊤ := by
      have ht := top4_ne_top h
      exact max_lt (lt_top_iff_ne_top.mpr ht) (lt_top_iff_ne_top.mpr fun e => hb (by rwa [EReal.neg_eq_top_iff] at e))
    rw [if_pos hm, add_comm]

end Cert.Mix
-- ==== Proof.Equal.lean ====
/-
  The kernel's two results equal the reference's at the arguments the precondition admits: segment by segment the sums
  agree term by term, the weights' log softmax and the log of the summed exponentials agree in both spellings.
-/
module

public import proofs.«01_k».proof.Proof.Tame
public import proofs.«01_k».proof.Proof.RefTotals
public import proofs.«01_k».proof.Proof.Total
public import proofs.«01_k».proof.Proof.TailLaws

@[expose] public section

noncomputable section

namespace Cert.Mix

open Idealize.ShloMosaic Idealize.ShloMosaic.TcCoe Idealize.ShloMosaic.ValueIdx Idealize.SL.Sem
open Cert.KernelIdeal Cert.KernelIdeal.Gen Cert.KernelIdeal.Value

/-- The log of a positive number is not minus infinity. -/
theorem log_ne_bot {x : EReal} (h : 0 < x) : Ideal.log x ≠ ⊥ := by
  induction x with
  | bot => exact absurd h (by simp)
  | top => simp
  | coe r =>
    have hr : ¬ r ≤ 0 := not_le.2 (EReal.coe_pos.1 h)
    rw [Ideal.log_coe, if_neg hr]
    exact EReal.coe_ne_bot _

/-- An exponential is not negative. -/
theorem exp_nonneg (x : EReal) : 0 ≤ Ideal.exp x := by
  induction x with
  | bot => simp
  | top => simp
  | coe r => rw [Ideal.exp_coe]; exact EReal.coe_nonneg.2 (Real.exp_pos r).le

/-- A normalised weight is not `+∞`. -/
theorem soft_ne_top {w : Fin 4 → EReal} (h : ∀ k, w k ≠ ⊤) (k : Fin 4) : softPlain w k ≠ ⊤ := by
  unfold softPlain
  by_cases hk : w k = ⊥
  · rw [hk, sub_eq_add_neg, sub_eq_add_neg, EReal.bot_add, EReal.bot_add]; exact bot_ne_top
  have ht := top4_ne_top h
  have hb : top4 w ≠ ⊥ := fun e => hk (eq_bot_of_top4 e k)
  obtain ⟨r, hr⟩ : ∃ r : ℝ, w k = (r : EReal) := ⟨_, (EReal.coe_toReal (h k) hk).symm⟩
  obtain ⟨t, hte⟩ : ∃ t : ℝ, top4 w = (t : EReal) := ⟨_, (EReal.coe_toReal ht hb).symm⟩
  have hp : 0 < ∑ j, Ideal.exp (w j - top4 w) := by
    refine lt_of_lt_of_le ?_ (Finset.single_le_sum (fun j _ => exp_nonneg (w j - top4 w)) (Finset.mem_univ k))
    rw [hr, hte, ← EReal.coe_sub, Ideal.exp_coe]
    exact EReal.coe_pos.2 (Real.exp_pos _)
  have hl := log_ne_bot hp
  generalize Ideal.log _ = y at hl
  rw [hr, hte, ← EReal.coe_sub, sub_eq_add_neg]
  exact EReal.add_ne_top (EReal.coe_ne_top _) fun e => hl (EReal.neg_eq_top_iff.1 e)

variable (m : (ℓ : Loc nD τ sig) → Buf (Elt Ideal) ℓ) (c : Dev nD)

/-- The arguments are such as the precondition admits. -/
abbrev Admitted : Prop := Tame (m ((c : Thread nD τ).loc main_arg0)) (m ((c : Thread nD τ).loc main_arg1)) (m ((c : Thread nD τ).loc main_arg3)) (m ((c : Thread nD τ).loc main_arg5))
  (m ((c : Thread nD τ).loc main_arg7)) (m ((c : Thread nD τ).loc main_arg8))

/-- A segment's reference sum as no artifact, of the kernel's arguments. -/
abbrev plainClean (b : Fin 16) : EReal := Ref.cleanSum (m ((c : Thread nD τ).loc main_arg0)) (m ((c : Thread nD τ).loc main_arg1)) (m ((c : Thread nD τ).loc main_arg2)) (m ((c : Thread nD τ).loc main_arg9)) b

/-- A segment's reference sum as artifacts of one cluster, of the kernel's arguments. -/
abbrev plainArt (b : Fin 16) (k : Fin 4) : EReal :=
  Ref.artSum (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg9)) b k

variable {m c}

theorem share_eq (b : Fin 16) {j : Fin 5} {i : Fin 32768} {y : EReal} (h : likelihood m c i j = y) :
    share m c b j i = if BitVec.ofNat 32 b.val = m ((c : Thread nD τ).loc main_arg9) (ix1 i) then y else 0 := by
  rw [share, h]

theorem total_clean (t : Admitted m c) (b : Fin 16) : total m c b 0 = plainClean m c b := by
  obtain ⟨x, hx⟩ := t.reads
  obtain ⟨v, hv⟩ := t.centroid
  refine Finset.sum_congr rfl fun i _ => share_eq b ?_
  show cleanKernel (rowOf _ i) (Ref.vecOf _) _ = cleanPlain (rowOf _ i) (Ref.vecOf _) _
  rw [hx i, hv]
  exact clean_eq (x i) v _

/-- One read's log likelihood as an artifact of one cluster: the two spellings agree, and it is not `+∞`. -/
theorem read_art (t : Admitted m c) (i : Fin 32768) (k : Fin 4) :
    likelihood m c i k.succ
        = artPlain erfcPlain (rowOf (m ((c : Thread nD τ).loc main_arg0)) i) (Ref.vecOf (m ((c : Thread nD τ).loc main_arg1)))
          (rowOf (m ((c : Thread nD τ).loc main_arg3)) k) (Ref.vecOf (m ((c : Thread nD τ).loc main_arg4)) k) (Ref.vecOf (m ((c : Thread nD τ).loc main_arg5)) k)
          (Ref.vecOf (m ((c : Thread nD τ).loc main_arg6)) k) (Ref.vecOf (m ((c : Thread nD τ).loc main_arg7)) k)
      ∧ likelihood m c i k.succ ≠ ⊤ := by
  obtain ⟨x, hx⟩ := t.reads
  obtain ⟨v, hv⟩ := t.centroid
  have hd := t.directions k
  obtain ⟨s, hs⟩ := t.scales
  have hl := t.spreads k
  have e : likelihood m c i k.succ
      = artKernel erfcKernel (rowOf (m ((c : Thread nD τ).loc main_arg0)) i) (Ref.vecOf (m ((c : Thread nD τ).loc main_arg1)))
          (rowOf (m ((c : Thread nD τ).loc main_arg3)) k) (Ref.vecOf (m ((c : Thread nD τ).loc main_arg4)) k) (Ref.vecOf (m ((c : Thread nD τ).loc main_arg5)) k)
          (Ref.vecOf (m ((c : Thread nD τ).loc main_arg6)) k) (Ref.vecOf (m ((c : Thread nD τ).loc main_arg7)) k) := rfl
  rw [e, show erfcKernel = erfcPlain from funext erfcKernel_eq, hx i, hv, hs k]
  exact ⟨art_eq erfcPlain (x i) v _ hd _ _ _ (s k), art_ne_top tail_plain (x i) v _ hd _ _ _ (s k) hl⟩

theorem total_art (t : Admitted m c) (b : Fin 16) (k : Fin 4) : total m c b k.succ = plainArt m c b k :=
  Finset.sum_congr rfl fun i _ => share_eq b (read_art t i k).1

theorem total_ne_top (t : Admitted m c) (b : Fin 16) (k : Fin 4) : total m c b k.succ ≠ ⊤ := by
  refine sum_ne_top _ _ fun i => ?_
  unfold share
  split
  · exact (read_art t i k).2
  · exact EReal.zero_ne_top

/-- The kernel's artifact column of a segment is the reference's. -/
theorem column_eq (t : Admitted m c) (b : Fin 16) (k : Fin 4) :
    total m c b k.succ + softKernel (Ref.vecOf (m ((c : Thread nD τ).loc main_arg8))) k
      = Ref.columns (m ((c : Thread nD τ).loc main_arg0)) (m ((c : Thread nD τ).loc main_arg1)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8))
          (m ((c : Thread nD τ).loc main_arg9)) b k := by
  rw [total_art t, soft_eq t.weights]
  rfl

/-- The first result. -/
theorem first_eq (t : Admitted m c) : G10 m c
    = Cert.ReferenceIdeal.Read.val_main_v196 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) := by
  funext j
  obtain ⟨b, rfl⟩ : ∃ b : Fin 16, j = ix2 b 0 :=
    ⟨j 0, (eq_ix2 j).trans (congrArg (ix2 (j 0)) (Subsingleton.elim (α := Fin 1) _ _))⟩
  refine (first_result m c b).trans (Eq.trans ?_ (Ref.first_apply _ _ _ _ _ _ _ _ _ _ b).symm)
  have hc := funext (column_eq t b)
  have ht : ∀ k, total m c b k.succ + softKernel (Ref.vecOf (m ((c : Thread nD τ).loc main_arg8))) k ≠ ⊤ := fun k =>
    EReal.add_ne_top (total_ne_top t b k) (soft_eq t.weights k ▸ soft_ne_top t.weights k)
  rw [total_clean t, ← hc, ← lse_eq ht]

/-- The second result. -/
theorem second_eq (t : Admitted m c) : G11 m c
    = Cert.ReferenceIdeal.Read.val_main_v177 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) := by
  funext j
  obtain ⟨b, k, rfl⟩ : ∃ (b : Fin 16) (k : Fin 5), j = ix2 b k := ⟨j 0, j 1, eq_ix2 j⟩
  induction k using Fin.cases with
  | zero => exact (second_result_zero m c b).trans ((total_clean t b).trans (Ref.second_zero _ _ _ _ _ _ _ _ _ _ b).symm)
  | succ k => exact (second_result_succ m c b k).trans ((column_eq t b k).trans (Ref.second_succ _ _ _ _ _ _ _ _ _ _ b k).symm)

end Cert.Mix
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference leaves its arguments unchanged, and it has no semaphore. -/
theorem reference_frame : Cert.quiescent_ReferenceIdeal (hReferenceIdeal := Cert.ReferenceIdeal.Gen.facts) := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- The kernel and the reference end with equal results, from equal arguments that the precondition admits. -/
theorem equal : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  intro m g m' g' hpre hagree
  refine ⟨Cert.KernelIdeal.Value.G10 m, Cert.KernelIdeal.Value.G11 m, Cert.KernelIdeal.Value.run m g,
    (θ_run Cert.ReferenceIdeal.defs _ _).mono (fun r h c => ?_) (Cert.ReferenceIdeal.Value.run (F := Ideal) m' g')⟩
  obtain ⟨h0, h1, h2⟩ := h c
  obtain ⟨e0, e1, e2, e3, e4, e5, e6, e7, e8, e9⟩ := hagree c
  have t : Cert.Mix.Admitted m c := Cert.Mix.tame_of_fn _ _ _ _ _ _ _ _ _ _ (hpre c)
  refine ⟨(h0.trans (Cert.ReferenceIdeal.Read.val_main_v196_eq (StableHlo.launchContents m' c))).trans ?_,
    (h1.trans (Cert.ReferenceIdeal.Read.val_main_v177_eq (StableHlo.launchContents m' c))).trans ?_, h2⟩
  · rw [Cert.Mix.first_eq t, ← e0, ← e1, ← e2, ← e3, ← e4, ← e5, ← e6, ← e7, ← e8, ← e9]
  · rw [Cert.Mix.second_eq t, ← e0, ← e1, ← e2, ← e3, ← e4, ← e5, ← e6, ← e7, ← e8, ← e9]

theorem claim : Cert.Claim := ⟨Cert.Kernel.Gen.facts, Cert.KernelIdeal.Gen.facts, Cert.ReferenceIdeal.Gen.facts, Cert.Pre_tame.Gen.facts,
  fun m g _ => Cert.Kernel.Gen.frame m g, fun m g _ => Cert.KernelIdeal.Gen.frame m g,
  fun m g _ => Cert.KernelIdeal.Gen.frame m g,
  reference_frame, fun m g _ => reference_frame m g True.intro, trivial, equal⟩

end Cert.Proof

end
